-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.bf16_pair.PackStatement Cert.KernelIdeal.S16x512
  ∧ IdealRules.bf16_pair.Statement Cert.KernelIdeal.S32x512 Cert.KernelIdeal.S16x512

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v23_0) = v1 c
          ∧ r.2.mem ((c.tc : Thread Cert.ReferenceIdeal.nD Cert.ReferenceIdeal.τ).loc Cert.ReferenceIdeal.main_v16) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S24x8x16x1280 : Shape := ⟨4, ![24, 8, 16, 1280]⟩
abbrev S3x3x2560x1280 : Shape := ⟨4, ![3, 3, 2560, 1280]⟩
abbrev S1280 : Shape := ⟨1, ![1280]⟩
abbrev S_ : Shape := ⟨0, ![]⟩
abbrev S24 : Shape := ⟨1, ![24]⟩

class Facts : Prop where
  bitsLt_bf16_f32 : FTy.bits .bf16 < FTy.bits .f32
  reducesTo_S24x8x16x1280_S24_d1_2_3 : S24x8x16x1280.ReducesTo [1, 2, 3] S24
  h_S_ : 0 < S_.numel
  bcast_S_S24 : S_.BroadcastsInDim S24 (![] : Fin 0 → Fin S24.rank)

variable [Facts]

def fn {F : FTy → Type} [FloatOps F] (main_arg0 : FVec F S24x8x16x1280 .bf16) (main_arg1 : FVec F S3x3x2560x1280 .fp8e4m3) (main_arg2 : FVec F S1280 .f32) : IVec S24 1 :=
  let main_v0 : FVec F S24x8x16x1280 .f32 := (extf .f32 · bitsLt_bf16_f32) main_arg0
  let main_v1 : FVec F S24x8x16x1280 .f32 := Host.absf main_v0
  let main_cst : FVec F S_ .f32 := constant S_ .f32 0xFF800000#32
  let main_v2 : FVec F S24 .f32 := (fun x v => Host.reduce FloatOps.maximumf x v reducesTo_S24x8x16x1280_S24_d1_2_3 h_S_) main_v1 main_cst
  let main_cst_0 : FVec F S_ .f32 := constant S_ .f32 0x7F7F0000#32
  let main_v3 : FVec F S24 .f32 := broadcastInDim S24 ![] bcast_S_S24 main_cst_0
  let main_v4 : IVec S24 1 := cmpf .ole main_v2 main_v3
  let main_cst_1 : FVec F S_ .f32 := constant S_ .f32 0x00000000#32
  let main_v5 : FVec F S24 .f32 := broadcastInDim S24 ![] bcast_S_S24 main_cst_1
  let main_v6 : IVec S24 1 := cmpf .oeq main_v2 main_v5
  let main_cst_2 : FVec F S_ .f32 := constant S_ .f32 0x37924925#32
  let main_v7 : FVec F S24 .f32 := broadcastInDim S24 ![] bcast_S_S24 main_cst_2
  let main_v8 : FVec F S24 .f32 := mulf main_v2 main_v7
  let main_cst_3 : FVec F S_ .f32 := constant S_ .f32 0x00800000#32
  let main_v9 : FVec F S24 .f32 := broadcastInDim S24 ![] bcast_S_S24 main_cst_3
  let main_v10 : IVec S24 1 := cmpf .oge main_v8 main_v9
  let main_v11 : IVec S24 1 := ori main_v6 main_v10
  let main_v12 : IVec S24 1 := andi main_v4 main_v11
  main_v12
-- ==== Kernel.lean ====
abbrev S24x8x16x1280 : Shape := ⟨4, ![24, 8, 16, 1280]⟩
abbrev S3x3x2560x1280 : Shape := ⟨4, ![3, 3, 2560, 1280]⟩
abbrev S1280 : Shape := ⟨1, ![1280]⟩
abbrev S1x1280 : Shape := ⟨2, ![1, 1280]⟩
abbrev S24x16x32x2560 : Shape := ⟨4, ![24, 16, 32, 2560]⟩
abbrev S24 : Shape := ⟨1, ![24]⟩
abbrev S3x8x16x1280 : Shape := ⟨4, ![3, 8, 16, 1280]⟩
abbrev S3x3x512x1280 : Shape := ⟨4, ![3, 3, 512, 1280]⟩
abbrev S3x16x32x512 : Shape := ⟨4, ![3, 16, 32, 512]⟩
abbrev S8x384x1280 : Shape := ⟨3, ![8, 384, 1280]⟩
abbrev S1x8x16x1280 : Shape := ⟨4, ![1, 8, 16, 1280]⟩
abbrev S8x16x1280 : Shape := ⟨3, ![8, 16, 1280]⟩
abbrev S1 : Shape := ⟨1, ![1]⟩
abbrev S1x1x1x1 : Shape := ⟨4, ![1, 1, 1, 1]⟩
abbrev S8x256 : Shape := ⟨2, ![8, 256]⟩
abbrev S1x8x256 : Shape := ⟨3, ![1, 8, 256]⟩
abbrev S1x1x1 : Shape := ⟨3, ![1, 1, 1]⟩
abbrev S1x1x16x1280 : Shape := ⟨4, ![1, 1, 16, 1280]⟩
abbrev S16x1280 : Shape := ⟨2, ![16, 1280]⟩
abbrev S1x16x1280 : Shape := ⟨3, ![1, 16, 1280]⟩
abbrev S1x384x1280 : Shape := ⟨3, ![1, 384, 1280]⟩
abbrev S384x1280 : Shape := ⟨2, ![384, 1280]⟩
abbrev S48x512 : Shape := ⟨2, ![48, 512]⟩
abbrev S1x1x512x1280 : Shape := ⟨4, ![1, 1, 512, 1280]⟩
abbrev S512x1280 : Shape := ⟨2, ![512, 1280]⟩
abbrev S384x512 : Shape := ⟨2, ![384, 512]⟩
abbrev S336x1280 : Shape := ⟨2, ![336, 1280]⟩
abbrev S336x512 : Shape := ⟨2, ![336, 512]⟩
abbrev S16x512 : Shape := ⟨2, ![16, 512]⟩
abbrev S32x512 : Shape := ⟨2, ![32, 512]⟩
abbrev S1x1x32x512 : Shape := ⟨4, ![1, 1, 32, 512]⟩

abbrev nBuf : Space → Nat
  | .hbm => 7
  | .vmem => 11
  | .smem => 1
  | _ => 0

abbrev bufTy : (tb : Table) → Fin (tcTables nBuf tb) → BufTy
  | .hbm, ⟨0, _⟩ => ⟨S24x8x16x1280, .bf16⟩
  | .hbm, ⟨1, _⟩ => ⟨S3x3x2560x1280, .fp8e4m3⟩
  | .hbm, ⟨2, _⟩ => ⟨S1280, .f32⟩
  | .hbm, ⟨3, _⟩ => ⟨S1x1280, .f32⟩
  | .hbm, ⟨4, _⟩ => ⟨S24x16x32x2560, .bf16⟩
  | .hbm, ⟨5, _⟩ => ⟨S24x8x16x1280, .fp8e5m2⟩
  | .hbm, ⟨6, _⟩ => ⟨S24, .f32⟩
  | .local _ .vmem, ⟨0, _⟩ => ⟨S3x8x16x1280, .bf16⟩
  | .local _ .vmem, ⟨1, _⟩ => ⟨S3x8x16x1280, .bf16⟩
  | .local _ .vmem, ⟨2, _⟩ => ⟨S3x3x512x1280, .fp8e4m3⟩
  | .local _ .vmem, ⟨3, _⟩ => ⟨S3x3x512x1280, .fp8e4m3⟩
  | .local _ .vmem, ⟨4, _⟩ => ⟨S1x1280, .f32⟩
  | .local _ .vmem, ⟨5, _⟩ => ⟨S3x16x32x512, .bf16⟩
  | .local _ .vmem, ⟨6, _⟩ => ⟨S3x16x32x512, .bf16⟩
  | .local _ .vmem, ⟨7, _⟩ => ⟨S3x8x16x1280, .fp8e5m2⟩
  | .local _ .vmem, ⟨8, _⟩ => ⟨S3x8x16x1280, .fp8e5m2⟩
  | .local _ .vmem, ⟨9, _⟩ => ⟨S8x384x1280, .bf16⟩
  | .local _ .vmem, ⟨10, _⟩ => ⟨S8x384x1280, .bf16⟩
  | .local _ .smem, ⟨0, _⟩ => ⟨S24, .f32⟩
  | _, _ => ⟨S24x8x16x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_stg5_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [BitOps F]

abbrev grid0 : Pipeline.Grid := ⟨2, ![5, 8], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_off1 (i : grid0.Coords) (c0_i32_243 : BitVec 32) : Fin 1 → Nat :=
  let arg1 : BitVec 32 := BitVec.ofNat 32 (i 1).val
  let c3_i32_242 : BitVec 32 := 3#32
  let v617 : BitVec 32 := Scalar.muli arg1 c3_i32_242
  let v618 : BitVec 32 := Scalar.addi v617 c0_i32_243
  let v619 : Index := Scalar.indexCast v618
  ![v619.toNat]
def k0_off2 (i : grid0.Coords) : Fin 3 → Nat :=
  let arg1 : BitVec 32 := BitVec.ofNat 32 (i 1).val
  let v641 : Index := Scalar.indexCast arg1
  let c0_257 : Index := 0#32
  let c0_258 : Index := 0#32
  ![v641.toNat, 0, 0]
def k0_off3 (i : grid0.Coords) : Fin 3 → Nat :=
  let arg1 : BitVec 32 := BitVec.ofNat 32 (i 1).val
  let v673 : Index := Scalar.indexCast arg1
  let c48 : Index := 48#32
  let c0_273 : Index := 0#32
  ![v673.toNat, 48, 0]
def k0_off4 (i : grid0.Coords) : Fin 3 → Nat :=
  let arg1 : BitVec 32 := BitVec.ofNat 32 (i 1).val
  let v705 : Index := Scalar.indexCast arg1
  let c96 : Index := 96#32
  let c0_289 : Index := 0#32
  ![v705.toNat, 96, 0]
def k0_off5 (i : grid0.Coords) : Fin 3 → Nat :=
  let arg1 : BitVec 32 := BitVec.ofNat 32 (i 1).val
  let v737 : Index := Scalar.indexCast arg1
  let c144 : Index := 144#32
  let c0_305 : Index := 0#32
  ![v737.toNat, 144, 0]
def k0_off6 (i : grid0.Coords) : Fin 3 → Nat :=
  let arg1 : BitVec 32 := BitVec.ofNat 32 (i 1).val
  let v769 : Index := Scalar.indexCast arg1
  let c192 : Index := 192#32
  let c0_321 : Index := 0#32
  ![v769.toNat, 192, 0]
def k0_off7 (i : grid0.Coords) : Fin 3 → Nat :=
  let arg1 : BitVec 32 := BitVec.ofNat 32 (i 1).val
  let v801 : Index := Scalar.indexCast arg1
  let c240 : Index := 240#32
  let c0_337 : Index := 0#32
  ![v801.toNat, 240, 0]
def k0_off8 (i : grid0.Coords) : Fin 3 → Nat :=
  let arg1 : BitVec 32 := BitVec.ofNat 32 (i 1).val
  let v833 : Index := Scalar.indexCast arg1
  let c288 : Index := 288#32
  let c0_353 : Index := 0#32
  ![v833.toNat, 288, 0]
def k0_off9 (i : grid0.Coords) : Fin 3 → Nat :=
  let arg1 : BitVec 32 := BitVec.ofNat 32 (i 1).val
  let v865 : Index := Scalar.indexCast arg1
  let c336 : Index := 336#32
  let c0_369 : Index := 0#32
  ![v865.toNat, 336, 0]
def k0_off10 (i : grid0.Coords) : Fin 3 → Nat :=
  let arg1 : BitVec 32 := BitVec.ofNat 32 (i 1).val
  let v932 : Index := Scalar.indexCast arg1
  let c16 : Index := 16#32
  let c0_404 : Index := 0#32
  ![v932.toNat, 16, 0]
def k0_off11 (i : grid0.Coords) : Fin 3 → Nat :=
  let arg1 : BitVec 32 := BitVec.ofNat 32 (i 1).val
  let v964 : Index := Scalar.indexCast arg1
  let c64 : Index := 64#32
  let c0_420 : Index := 0#32
  ![v964.toNat, 64, 0]
def k0_off12 (i : grid0.Coords) : Fin 3 → Nat :=
  let arg1 : BitVec 32 := BitVec.ofNat 32 (i 1).val
  let v996 : Index := Scalar.indexCast arg1
  let c112 : Index := 112#32
  let c0_436 : Index := 0#32
  ![v996.toNat, 112, 0]
def k0_off13 (i : grid0.Coords) : Fin 3 → Nat :=
  let arg1 : BitVec 32 := BitVec.ofNat 32 (i 1).val
  let v1028 : Index := Scalar.indexCast arg1
  let c160 : Index := 160#32
  let c0_452 : Index := 0#32
  ![v1028.toNat, 160, 0]
def k0_off14 (i : grid0.Coords) : Fin 3 → Nat :=
  let arg1 : BitVec 32 := BitVec.ofNat 32 (i 1).val
  let v1060 : Index := Scalar.indexCast arg1
  let c208 : Index := 208#32
  let c0_468 : Index := 0#32
  ![v1060.toNat, 208, 0]
def k0_off15 (i : grid0.Coords) : Fin 3 → Nat :=
  let arg1 : BitVec 32 := BitVec.ofNat 32 (i 1).val
  let v1092 : Index := Scalar.indexCast arg1
  let c256 : Index := 256#32
  let c0_484 : Index := 0#32
  ![v1092.toNat, 256, 0]
def k0_off16 (i : grid0.Coords) : Fin 3 → Nat :=
  let arg1 : BitVec 32 := BitVec.ofNat 32 (i 1).val
  let v1124 : Index := Scalar.indexCast arg1
  let c304 : Index := 304#32
  let c0_500 : Index := 0#32
  ![v1124.toNat, 304, 0]
def k0_off17 (i : grid0.Coords) : Fin 3 → Nat :=
  let arg1 : BitVec 32 := BitVec.ofNat 32 (i 1).val
  let v1156 : Index := Scalar.indexCast arg1
  let c352 : Index := 352#32
  let c0_516 : Index := 0#32
  ![v1156.toNat, 352, 0]
def k0_off18 (i : grid0.Coords) : Fin 3 → Nat :=
  let arg1 : BitVec 32 := BitVec.ofNat 32 (i 1).val
  let v1223 : Index := Scalar.indexCast arg1
  let c32 : Index := 32#32
  let c0_551 : Index := 0#32
  ![v1223.toNat, 32, 0]
def k0_off19 (i : grid0.Coords) : Fin 3 → Nat :=
  let arg1 : BitVec 32 := BitVec.ofNat 32 (i 1).val
  let v1255 : Index := Scalar.indexCast arg1
  let c80 : Index := 80#32
  let c0_567 : Index := 0#32
  ![v1255.toNat, 80, 0]
def k0_off20 (i : grid0.Coords) : Fin 3 → Nat :=
  let arg1 : BitVec 32 := BitVec.ofNat 32 (i 1).val
  let v1287 : Index := Scalar.indexCast arg1
  let c128 : Index := 128#32
  let c0_583 : Index := 0#32
  ![v1287.toNat, 128, 0]
def k0_off21 (i : grid0.Coords) : Fin 3 → Nat :=
  let arg1 : BitVec 32 := BitVec.ofNat 32 (i 1).val
  let v1319 : Index := Scalar.indexCast arg1
  let c176 : Index := 176#32
  let c0_599 : Index := 0#32
  ![v1319.toNat, 176, 0]
def k0_off22 (i : grid0.Coords) : Fin 3 → Nat :=
  let arg1 : BitVec 32 := BitVec.ofNat 32 (i 1).val
  let v1351 : Index := Scalar.indexCast arg1
  let c224 : Index := 224#32
  let c0_615 : Index := 0#32
  ![v1351.toNat, 224, 0]
def k0_off23 (i : grid0.Coords) : Fin 3 → Nat :=
  let arg1 : BitVec 32 := BitVec.ofNat 32 (i 1).val
  let v1383 : Index := Scalar.indexCast arg1
  let c272 : Index := 272#32
  let c0_631 : Index := 0#32
  ![v1383.toNat, 272, 0]
def k0_off24 (i : grid0.Coords) : Fin 3 → Nat :=
  let arg1 : BitVec 32 := BitVec.ofNat 32 (i 1).val
  let v1415 : Index := Scalar.indexCast arg1
  let c320 : Index := 320#32
  let c0_647 : Index := 0#32
  ![v1415.toNat, 320, 0]
def k0_off25 (i : grid0.Coords) : Fin 3 → Nat :=
  let arg1 : BitVec 32 := BitVec.ofNat 32 (i 1).val
  let v1447 : Index := Scalar.indexCast arg1
  let c368 : Index := 368#32
  let c0_663 : Index := 0#32
  ![v1447.toNat, 368, 0]
def k0_off26 (i : grid0.Coords) : Fin 3 → Nat :=
  let arg1 : BitVec 32 := BitVec.ofNat 32 (i 1).val
  let v3 : Index := Scalar.indexCast arg1
  let c0 : Index := 0#32
  let c0_1 : Index := 0#32
  ![v3.toNat, 0, 0]
def k0_off27 (i : grid0.Coords) (c0_i32_47 : BitVec 32) : Fin 1 → Nat :=
  let arg1 : BitVec 32 := BitVec.ofNat 32 (i 1).val
  let c3_i32 : BitVec 32 := 3#32
  let v47 : BitVec 32 := Scalar.muli arg1 c3_i32
  let v48 : BitVec 32 := Scalar.addi v47 c0_i32_47
  let v49 : Index := Scalar.indexCast v48
  ![v49.toNat]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  let c0_i32_2 : BitVec 32 := 0#32
  let c0_i32_3 : BitVec 32 := 0#32
  ![v1.toNat, c0_i32_0.toNat, c0_i32_1.toNat, c0_i32_2.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c7_i32 : BitVec 32 := 7#32
  let v1 : BitVec 32 := Scalar.select v0 arg1 c7_i32
  let c0_i32_0 : BitVec 32 := 0#32
  let c0_i32_1 : BitVec 32 := 0#32
  let c0_i32_2 : BitVec 32 := 0#32
  let c0_i32_3 : BitVec 32 := 0#32
  ![v1.toNat, c0_i32_0.toNat, c0_i32_1.toNat, c0_i32_2.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

abbrev stage0_0 : Fin 2 → Memref sig .tc .vmem S3x8x16x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x3x512x1280 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S3x16x32x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x8x16x1280 .fp8e5m2 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .smem S24 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]
-- ==== KernelIdeal.lean ====
variable {F : FTy → Type} [FloatOps F]
-- ==== ReferenceIdeal.lean ====
abbrev S24x8x16x1280 : Shape := ⟨4, ![24, 8, 16, 1280]⟩
abbrev S3x3x2560x1280 : Shape := ⟨4, ![3, 3, 2560, 1280]⟩
abbrev S1280 : Shape := ⟨1, ![1280]⟩
abbrev S_ : Shape := ⟨0, ![]⟩
abbrev S24 : Shape := ⟨1, ![24]⟩
abbrev S24x1x1x1 : Shape := ⟨4, ![24, 1, 1, 1]⟩
abbrev S1x1x1x1280 : Shape := ⟨4, ![1, 1, 1, 1280]⟩
abbrev S24x18x34x1280 : Shape := ⟨4, ![24, 18, 34, 1280]⟩
abbrev S24x16x32x2560 : Shape := ⟨4, ![24, 16, 32, 2560]⟩
abbrev S24x16x32x1280 : Shape := ⟨4, ![24, 16, 32, 1280]⟩
abbrev S1x1x2560x1280 : Shape := ⟨4, ![1, 1, 2560, 1280]⟩
abbrev S2560x1280 : Shape := ⟨2, ![2560, 1280]⟩

abbrev nBuf : Space → Nat
  | .hbm => 102
  | .vmem => 5
  | .smem => 0
  | _ => 0

abbrev bufTy : (tb : Table) → Fin (tcTables nBuf tb) → BufTy
  | .hbm, ⟨0, _⟩ => ⟨S24x8x16x1280, .bf16⟩
  | .hbm, ⟨1, _⟩ => ⟨S3x3x2560x1280, .fp8e4m3⟩
  | .hbm, ⟨2, _⟩ => ⟨S1280, .f32⟩
  | .hbm, ⟨3, _⟩ => ⟨S24x8x16x1280, .f32⟩
  | .hbm, ⟨4, _⟩ => ⟨S24x8x16x1280, .f32⟩
  | .hbm, ⟨5, _⟩ => ⟨S_, .f32⟩
  | .hbm, ⟨6, _⟩ => ⟨S24, .f32⟩
  | .hbm, ⟨7, _⟩ => ⟨S_, .f32⟩
  | .hbm, ⟨8, _⟩ => ⟨S24, .f32⟩
  | .hbm, ⟨9, _⟩ => ⟨S24, .f32⟩
  | .hbm, ⟨10, _⟩ => ⟨S_, .f32⟩
  | .hbm, ⟨11, _⟩ => ⟨S24, .f32⟩
  | .hbm, ⟨12, _⟩ => ⟨S24, .i1⟩
  | .hbm, ⟨13, _⟩ => ⟨S24, .f32⟩
  | .hbm, ⟨14, _⟩ => ⟨S_, .f32⟩
  | .hbm, ⟨15, _⟩ => ⟨S24, .f32⟩
  | .hbm, ⟨16, _⟩ => ⟨S24, .f32⟩
  | .hbm, ⟨17, _⟩ => ⟨S24, .f32⟩
  | .hbm, ⟨18, _⟩ => ⟨S24, .f32⟩
  | .hbm, ⟨19, _⟩ => ⟨S_, .f32⟩
  | .hbm, ⟨20, _⟩ => ⟨S24, .f32⟩
  | .hbm, ⟨21, _⟩ => ⟨S24, .f32⟩
  | .hbm, ⟨22, _⟩ => ⟨S_, .f32⟩
  | .hbm, ⟨23, _⟩ => ⟨S_, .f32⟩
  | .hbm, ⟨24, _⟩ => ⟨S24, .f32⟩
  | .hbm, ⟨25, _⟩ => ⟨S24, .f32⟩
  | .hbm, ⟨26, _⟩ => ⟨S_, .f32⟩
  | .hbm, ⟨27, _⟩ => ⟨S24, .f32⟩
  | .hbm, ⟨28, _⟩ => ⟨S24, .f32⟩
  | .hbm, ⟨29, _⟩ => ⟨S24, .f32⟩
  | .hbm, ⟨30, _⟩ => ⟨S24, .f32⟩
  | .hbm, ⟨31, _⟩ => ⟨S24x1x1x1, .f32⟩
  | .hbm, ⟨32, _⟩ => ⟨S24x8x16x1280, .f32⟩
  | .hbm, ⟨33, _⟩ => ⟨S24x8x16x1280, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S24x8x16x1280, .f32⟩
  | .hbm, ⟨38, _⟩ => ⟨S24x8x16x1280, .f32⟩
  | .hbm, ⟨39, _⟩ => ⟨S_, .f32⟩
  | .hbm, ⟨40, _⟩ => ⟨S24x8x16x1280, .f32⟩
  | .hbm, ⟨41, _⟩ => ⟨S24x8x16x1280, .f32⟩
  | .hbm, ⟨42, _⟩ => ⟨S24x8x16x1280, .fp8e5m2⟩
  | .hbm, ⟨43, _⟩ => ⟨S24x8x16x1280, .bf16⟩
  | .hbm, ⟨44, _⟩ => ⟨S3x3x2560x1280, .bf16⟩
  | .hbm, ⟨45, _⟩ => ⟨S1280, .bf16⟩
  | .hbm, ⟨46, _⟩ => ⟨S1x1x1x1280, .bf16⟩
  | .hbm, ⟨47, _⟩ => ⟨S3x3x2560x1280, .bf16⟩
  | .hbm, ⟨48, _⟩ => ⟨S3x3x2560x1280, .bf16⟩
  | .hbm, ⟨49, _⟩ => ⟨S_, .bf16⟩
  | .hbm, ⟨50, _⟩ => ⟨S24x18x34x1280, .bf16⟩
  | .hbm, ⟨51, _⟩ => ⟨S_, .f32⟩
  | .hbm, ⟨52, _⟩ => ⟨S24x16x32x2560, .f32⟩
  | .hbm, ⟨53, _⟩ => ⟨S24x16x32x1280, .bf16⟩
  | .hbm, ⟨54, _⟩ => ⟨S1x1x2560x1280, .bf16⟩
  | .hbm, ⟨55, _⟩ => ⟨S2560x1280, .bf16⟩
  | .hbm, ⟨56, _⟩ => ⟨S24x16x32x2560, .f32⟩
  | .hbm, ⟨57, _⟩ => ⟨S24x16x32x2560, .f32⟩
  | .hbm, ⟨58, _⟩ => ⟨S24x16x32x1280, .bf16⟩
  | .hbm, ⟨59, _⟩ => ⟨S1x1x2560x1280, .bf16⟩
  | .hbm, ⟨60, _⟩ => ⟨S2560x1280, .bf16⟩
  | .hbm, ⟨61, _⟩ => ⟨S24x16x32x2560, .f32⟩
  | .hbm, ⟨62, _⟩ => ⟨S24x16x32x2560, .f32⟩
  | .hbm, ⟨63, _⟩ => ⟨S24x16x32x1280, .bf16⟩
  | .hbm, ⟨64, _⟩ => ⟨S1x1x2560x1280, .bf16⟩
  | .hbm, ⟨65, _⟩ => ⟨S2560x1280, .bf16⟩
  | .hbm, ⟨66, _⟩ => ⟨S24x16x32x2560, .f32⟩
  | .hbm, ⟨67, _⟩ => ⟨S24x16x32x2560, .f32⟩
  | .hbm, ⟨68, _⟩ => ⟨S24x16x32x1280, .bf16⟩
  | .hbm, ⟨69, _⟩ => ⟨S1x1x2560x1280, .bf16⟩
  | .hbm, ⟨70, _⟩ => ⟨S2560x1280, .bf16⟩
  | .hbm, ⟨71, _⟩ => ⟨S24x16x32x2560, .f32⟩
  | .hbm, ⟨72, _⟩ => ⟨S24x16x32x2560, .f32⟩
  | .hbm, ⟨73, _⟩ => ⟨S24x16x32x1280, .bf16⟩
  | .hbm, ⟨74, _⟩ => ⟨S1x1x2560x1280, .bf16⟩
  | .hbm, ⟨75, _⟩ => ⟨S2560x1280, .bf16⟩
  | .hbm, ⟨76, _⟩ => ⟨S24x16x32x2560, .f32⟩
  | .hbm, ⟨77, _⟩ => ⟨S24x16x32x2560, .f32⟩
  | .hbm, ⟨78, _⟩ => ⟨S24x16x32x1280, .bf16⟩
  | .hbm, ⟨79, _⟩ => ⟨S1x1x2560x1280, .bf16⟩
  | .hbm, ⟨80, _⟩ => ⟨S2560x1280, .bf16⟩
  | .hbm, ⟨81, _⟩ => ⟨S24x16x32x2560, .f32⟩
  | .hbm, ⟨82, _⟩ => ⟨S24x16x32x2560, .f32⟩
  | .hbm, ⟨83, _⟩ => ⟨S24x16x32x1280, .bf16⟩
  | .hbm, ⟨84, _⟩ => ⟨S1x1x2560x1280, .bf16⟩
  | .hbm, ⟨85, _⟩ => ⟨S2560x1280, .bf16⟩
  | .hbm, ⟨86, _⟩ => ⟨S24x16x32x2560, .f32⟩
  | .hbm, ⟨87, _⟩ => ⟨S24x16x32x2560, .f32⟩
  | .hbm, ⟨88, _⟩ => ⟨S24x16x32x1280, .bf16⟩
  | .hbm, ⟨89, _⟩ => ⟨S1x1x2560x1280, .bf16⟩
  | .hbm, ⟨90, _⟩ => ⟨S2560x1280, .bf16⟩
  | .hbm, ⟨91, _⟩ => ⟨S24x16x32x2560, .f32⟩
  | .hbm, ⟨92, _⟩ => ⟨S24x16x32x2560, .f32⟩
  | .hbm, ⟨93, _⟩ => ⟨S24x16x32x1280, .bf16⟩
  | .hbm, ⟨94, _⟩ => ⟨S1x1x2560x1280, .bf16⟩
  | .hbm, ⟨95, _⟩ => ⟨S2560x1280, .bf16⟩
  | .hbm, ⟨96, _⟩ => ⟨S24x16x32x2560, .f32⟩
  | .hbm, ⟨97, _⟩ => ⟨S24x16x32x2560, .f32⟩
  | .hbm, ⟨98, _⟩ => ⟨S24x1x1x1, .f32⟩
  | .hbm, ⟨99, _⟩ => ⟨S24x16x32x2560, .f32⟩
  | .hbm, ⟨100, _⟩ => ⟨S24x16x32x2560, .f32⟩
  | .hbm, ⟨101, _⟩ => ⟨S24x16x32x2560, .bf16⟩
  | .local _ .vmem, ⟨0, _⟩ => ⟨S24x8x16x1280, .f32⟩
  | .local _ .vmem, ⟨1, _⟩ => ⟨S3x3x2560x1280, .fp8e4m3⟩
  | .local _ .vmem, ⟨2, _⟩ => ⟨S24x8x16x1280, .fp8e5m2⟩
  | .local _ .vmem, ⟨3, _⟩ => ⟨S24x8x16x1280, .bf16⟩
  | .local _ .vmem, ⟨4, _⟩ => ⟨S3x3x2560x1280, .bf16⟩
  | _, _ => ⟨S24x8x16x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_cst_4 : Ref sig .tc := ⟨.hbm, 22, rfl⟩
abbrev main_call0_v0 : Ref sig .tc := ⟨.hbm, 23, rfl⟩
abbrev main_call0_v1 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_cst_7 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_v22 : Ref sig .tc := ⟨.hbm, 41, rfl⟩
abbrev main_v23_0 : Ref sig .tc := ⟨.hbm, 42, rfl⟩
abbrev main_v23_1 : Ref sig .tc := ⟨.hbm, 43, rfl⟩
abbrev main_v23_2 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_8 : Ref sig .tc := ⟨.hbm, 49, rfl⟩
abbrev main_v28 : Ref sig .tc := ⟨.hbm, 50, rfl⟩
abbrev main_cst_9 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S24x8x16x1280 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x3x2560x1280 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x8x16x1280 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24x8x16x1280 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x3x2560x1280 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.KernelRunA.lean ====
/- The kernel as printed: @main up to its one region, and the body's run at the points of the first column of tiles,
   where it also quantises. Nothing is said of what the results hold. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Run

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      ((h c).2 main_arg2 (Pipeline.mem_restRefs_of main_arg2 (by decide) (by decide))).trans (V_main_arg2 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points before point 8 — by arithmetic of the point. -/
theorem hcond0_0 : ∀ t : Fin cfg0.N, cond0_0 (grid0.coords t) ↔ t.val < 8 :=
  (fun t => by
    have ht : t.val < 40 := Nat.lt_of_lt_of_eq t.isLt N_0
    have e0 : (grid0.coords t 0).val = t.val / 8 % 5 := Pipeline.Grid.coords_val t 0 (by decide) rfl
    have e1 : (grid0.coords t 1).val = t.val / 1 % 8 := Pipeline.Grid.coords_val t 1 (by decide) rfl
    simp only [cond0_0, k0_cond1, e0, e1]
    word_cmp
   : ∀ t : Fin grid0.N, cond0_0 (grid0.coords t) ↔ t.val < 8)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S3x8x16x1280 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3x3x512x1280 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1280 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3x16x32x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S3x8x16x1280 .fp8e5m2 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .smem S24 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S8x384x1280 .bf16 := Memref.whole cc0_scratch0
abbrev scM0_1 : Memref sig .tc .vmem S8x384x1280 .bf16 := Memref.whole cc0_scratch1

/-- The frame kit's invariant with the scratch operands as memrefs owned at some contents (`scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

-- (the run's proof term is large: checking it walks past the default budget)
set_option maxHeartbeats 2280000 in
/-- The body's triple IN CASE A (`scf.if` 0 taken: points 0, 1, … 7: 8 of 40): on whole staging memrefs — the inputs' at their contents,
    the FORGOTTEN outputs' (3, 4, 5) at anything, handed back at some contents nothing names —
    the body runs to the continuation holding the inputs' as they were, the scratch at some contents: the printed functions are their skeletons (`*_eq_skeleton`),
    which `sl_exec` runs (Lib/Exec.lean) — each `scf.if` decided by the case's hypotheses `hc·`. -/
theorem kernelRun0_A (c : Dev nD) (i : grid0.Coords) (arg2 : Memref sig .tc .vmem S3x8x16x1280 .bf16) (harg2 : arg2.IsWhole) (arg3 : Memref sig .tc .vmem S3x3x512x1280 .fp8e4m3) (harg3 : arg3.IsWhole) (arg4 : Memref sig .tc .vmem S1x1280 .f32) (harg4 : arg4.IsWhole) (arg5 : Memref sig .tc .vmem S3x16x32x512 .bf16) (harg5 : arg5.IsWhole) (arg6 : Memref sig .tc .vmem S3x8x16x1280 .fp8e5m2) (harg6 : arg6.IsWhole) (arg7 : Memref sig .tc .smem S24 .f32) (harg7 : arg7.IsWhole) (arg8 : Memref sig .tc .vmem S8x384x1280 .bf16) (harg8 : arg8.IsWhole) (arg9 : Memref sig .tc .vmem S8x384x1280 .bf16) (harg9 : arg9.IsWhole) (hc0 : cond0_0 i)
    (x0 : Vec F S3x8x16x1280 .bf16) (x1 : Vec F S3x3x512x1280 .fp8e4m3) (x2 : Vec F S1x1280 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_dgrad i arg2 harg2 arg3 harg3 arg4 harg4 arg5 harg5 arg6 harg6 arg7 harg7 arg8 harg8 arg9 harg9) K := by
    intro E K
    simp only [cc0_dgrad_eq_skeleton]; unfold cc0_dgrad_skel
    simp only [k0_part39_eq_skeleton, k0_part25_eq_skeleton, k0_part24_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [HS0]
    · iexists _, _; isplitr; swap; · iexact HS0
      ipureintro; rfl
    iexists _, _; isplitr; swap; · iexact HS1
    ipureintro; rfl

end Cert.Kernel.Run

end
-- ==== Proof.KernelFrame.lean ====
/- The kernel as printed: the body's run at every other point, and the frame: it terminates without fault, leaves its
   arguments unchanged and every semaphore counter at zero. Nothing is said of what the results hold. -/
module

public import proofs.«01_k».proof.Proof.KernelRunA
public import Idealize.ShloMosaic.Lib.Claim

@[expose] public section

-- membership in a rectangle of production extents (`View.cover_of_tiled`): the elaborator's structural look
-- recurses once per coordinate of the long axes
set_option maxRecDepth 16384

noncomputable section

namespace Cert.Kernel.Run

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE B (`scf.if` 0 not taken: points 8, 9, … 39: 32 of 40): on whole staging memrefs — the inputs' at their contents,
    the FORGOTTEN outputs' (3, 4, 5) at anything, handed back at some contents nothing names —
    the body runs to the continuation holding the inputs' as they were, the scratch at some contents: the printed functions are their skeletons (`*_eq_skeleton`),
    which `sl_exec` runs (Lib/Exec.lean) — each `scf.if` decided by the case's hypotheses `hc·`. -/
theorem kernelRun0_B (c : Dev nD) (i : grid0.Coords) (arg2 : Memref sig .tc .vmem S3x8x16x1280 .bf16) (harg2 : arg2.IsWhole) (arg3 : Memref sig .tc .vmem S3x3x512x1280 .fp8e4m3) (harg3 : arg3.IsWhole) (arg4 : Memref sig .tc .vmem S1x1280 .f32) (harg4 : arg4.IsWhole) (arg5 : Memref sig .tc .vmem S3x16x32x512 .bf16) (harg5 : arg5.IsWhole) (arg6 : Memref sig .tc .vmem S3x8x16x1280 .fp8e5m2) (harg6 : arg6.IsWhole) (arg7 : Memref sig .tc .smem S24 .f32) (harg7 : arg7.IsWhole) (arg8 : Memref sig .tc .vmem S8x384x1280 .bf16) (harg8 : arg8.IsWhole) (arg9 : Memref sig .tc .vmem S8x384x1280 .bf16) (harg9 : arg9.IsWhole) (hc0 : ¬cond0_0 i)
    (x0 : Vec F S3x8x16x1280 .bf16) (x1 : Vec F S3x3x512x1280 .fp8e4m3) (x2 : Vec F S1x1280 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)) -∗ K ⟨⟩))
          ⊢ wp frame (wpE (defs₀ (F := F)) Variants.none c none) E (cc0_dgrad i arg2 harg2 arg3 harg3 arg4 harg4 arg5 harg5 arg6 harg6 arg7 harg7 arg8 harg8 arg9 harg9) K := by
    intro E K
    simp only [cc0_dgrad_eq_skeleton]; unfold cc0_dgrad_skel
    simp only [k0_part39_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%ds0, %fs0, -, HS0⟩, ⟨%ds1, %fs1, -, HS1⟩, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]
    · iexists _, _; isplitr; swap; · iexact H4
      ipureintro; rfl
    isplitl [H5]
    · iexists _, _; isplitr; swap; · iexact H5
      ipureintro; rfl
    isplitl [HS0]
    · iexists _, _; isplitr; swap; · iexact HS0
      ipureintro; rfl
    iexists _, _; isplitr; swap; · iexact HS1
    ipureintro; rfl

/-! ## The pipeline's proof data -/

/-- The output windows this certificate FORGETS (3, 4, 5): nothing reads what the kernel leaves in them, so nothing
    of it is named (Lib/Pipeline/Dat.lean `Dat.toRForget`). -/
def forgets0 : Fin 6 → Bool := fun w => w.val == 3 || w.val == 4 || w.val == 5

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d)
    ∗ (∃ d, owns (c : Thread nD τ) (ms0_4 t) fullShare d)
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (∃ d, owns (c : Thread nD τ) (ms0_3 t) fullShare d)
    ∗ (∃ d, owns (c : Thread nD τ) (ms0_4 t) fullShare d)
    ∗ (∃ d, owns (c : Thread nD τ) (ms0_5 t) fullShare d))

set_option maxHeartbeats 1600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 40 := lt_of_lt_of_eq t.isLt (show cfg0.N = 40 from N_0)
  by_cases h0 : t.val < 8
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply ((kernelRun0_A c (grid0.coords t) _ _ _ _ _ _ _ _ _ _ _ _ _ _ _ _ ((hcond0_0 t).mpr h0) (iblk m c 0 t) (iblk m c 1 t) (iblk m c 2 t)) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, H3, H4, H5, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    iintro ⟨⟨⟨HS0, HS1⟩, Hg⟩, Ho, ⟨%d0, H0⟩, ⟨%d1, H1⟩, ⟨%d2, H2⟩, ⟨%d3, H3⟩, ⟨%d4, H4⟩, ⟨%d5, H5⟩⟩
    iapply ((kernelRun0_B c (grid0.coords t) _ _ _ _ _ _ _ _ _ _ _ _ _ _ _ _ (fun h => h0 ((hcond0_0 t).mp h)) (iblk m c 0 t) (iblk m c 1 t) (iblk m c 2 t)) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    iintro ⟨H0, H1, H2, H3, H4, H5, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 3, 4, 5) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (fun c => (dats m 0 c).toRForget forgets0) (A_eq m) (run_main m ρ)

/-- The frame: the arguments end unchanged and every semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Run

end
-- ==== Proof.Base.lean ====
/- What the kernel's two runs share: the branch condition over the points, the staging and scratch memrefs, the invariant
   with the scratch opened, and the frame's post read off a relational run. -/
module

public import proofs.«01_k».proof.Proof.Gen.KernelIdeal.Launch
public import proofs.«01_k».proof.Proof.Gen.KernelIdeal.Frame
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of_rel (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      ((h c).2 main_arg2 (Pipeline.mem_restRefs_of main_arg2 (by decide) (by decide))).trans (V_main_arg2 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points before point 8 — by arithmetic of the point. -/
theorem hcond0_0 : ∀ t : Fin cfg0.N, cond0_0 (grid0.coords t) ↔ t.val < 8 :=
  (fun t => by
    have ht : t.val < 40 := Nat.lt_of_lt_of_eq t.isLt N_0
    have e0 : (grid0.coords t 0).val = t.val / 8 % 5 := Pipeline.Grid.coords_val t 0 (by decide) rfl
    have e1 : (grid0.coords t 1).val = t.val / 1 % 8 := Pipeline.Grid.coords_val t 1 (by decide) rfl
    simp only [cond0_0, k0_cond1, e0, e1]
    word_cmp
   : ∀ t : Fin grid0.N, cond0_0 (grid0.coords t) ↔ t.val < 8)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S3x8x16x1280 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3x3x512x1280 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1280 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3x16x32x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S3x8x16x1280 .fp8e5m2 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .smem S24 .f32 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S8x384x1280 .bf16 := Memref.whole cc0_scratch0
abbrev scM0_1 : Memref sig .tc .vmem S8x384x1280 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Run

end
-- ==== Proof.Split.lean ====
module

public import proofs.«01_k».proof.Proof.Base

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI Idealize.SL.Sem

variable {F : FTy → Type} [FloatOps F]

/-- The quantisation of one image group: the block a point of the first channel tile runs. -/
def quantProg (i : grid0.Coords) (arg2 : Memref sig .tc .vmem S3x8x16x1280 .bf16) (harg2 : arg2.IsWhole) (arg3 : Memref sig .tc .vmem S3x3x512x1280 .fp8e4m3) (harg3 : arg3.IsWhole) (arg4 : Memref sig .tc .vmem S1x1280 .f32) (harg4 : arg4.IsWhole) (arg5 : Memref sig .tc .vmem S3x16x32x512 .bf16) (harg5 : arg5.IsWhole) (arg6 : Memref sig .tc .vmem S3x8x16x1280 .fp8e5m2) (harg6 : arg6.IsWhole) (arg7 : Memref sig .tc .smem S24 .f32) (harg7 : arg7.IsWhole) (arg8 : Memref sig .tc .vmem S8x384x1280 .bf16) (harg8 : arg8.IsWhole) (arg9 : Memref sig .tc .vmem S8x384x1280 .bf16) (harg9 : arg9.IsWhole) (k0_h1 : k0_cond1 i = 1#1) :
    Prog (TpuEff nD τ sig (Elt F) Λ₀ .tc) PUnit := do
  let arg1 : BitVec 32 := BitVec.ofNat 32 (i 1).val
    let v1462 : FVec F S1x16x1280 .bf16 ← k0_part24 i arg2 harg2 arg3 harg3 arg4 harg4 arg5 harg5 arg6 harg6 arg7 harg7 arg8 harg8 arg9 harg9 arg1 k0_h1
    Prog.lift (.store arg9 (Rect.unit (s := S8x384x1280) (k0_off25 i) S1x16x1280.size (k0_off25_inb i k0_h1)) v1462 Finset.univ (View.stores_vmem h_S1x16x1280 (harg9.storeExact_slice rfl _ (k0_off25_packedbf16 i k0_h1)) (fun _ => rfl)) (.inl rfl))

/-- The loads a point's products start from: the group's rows of the two scratch buffers and the first five taps. -/
def loadProg (i : grid0.Coords) (arg2 : Memref sig .tc .vmem S3x8x16x1280 .bf16) (harg2 : arg2.IsWhole) (arg3 : Memref sig .tc .vmem S3x3x512x1280 .fp8e4m3) (harg3 : arg3.IsWhole) (arg4 : Memref sig .tc .vmem S1x1280 .f32) (harg4 : arg4.IsWhole) (arg5 : Memref sig .tc .vmem S3x16x32x512 .bf16) (harg5 : arg5.IsWhole) (arg6 : Memref sig .tc .vmem S3x8x16x1280 .fp8e5m2) (harg6 : arg6.IsWhole) (arg7 : Memref sig .tc .smem S24 .f32) (harg7 : arg7.IsWhole) (arg8 : Memref sig .tc .vmem S8x384x1280 .bf16) (harg8 : arg8.IsWhole) (arg9 : Memref sig .tc .vmem S8x384x1280 .bf16) (harg9 : arg9.IsWhole) :
    Prog (TpuEff nD τ sig (Elt F) Λ₀ .tc) (Σ' (arg1 : BitVec 32) (v5 : FVec F S384x1280 .bf16) (v8 : FVec F S384x1280 .bf16) (v9 : FVec F S48x512 .f32) (v12 : FVec F S384x512 .f32) (v19 : FVec F S384x512 .f32) (v22 : FVec F S384x512 .f32) (v23 : FVec F S336x1280 .bf16), FVec F S512x1280 .fp8e4m3) := do
  let arg1 : BitVec 32 := BitVec.ofNat 32 (i 1).val
  let v4 : Vec F S1x384x1280 .bf16 ← Prog.lift (.load arg8 (Rect.unit (s := S8x384x1280) (k0_off26 i) S1x384x1280.size (k0_off26_inb i)).toLoadRect (View.loadsAt_vmem h_S1x384x1280))
  let v7 : Vec F S1x384x1280 .bf16 ← Prog.lift (.load arg9 (Rect.unit (s := S8x384x1280) (k0_off26 i) S1x384x1280.size (k0_off26_inb i)).toLoadRect (View.loadsAt_vmem h_S1x384x1280))
  let v10 : Vec F S1x1x512x1280 .fp8e4m3 ← Prog.lift (.load arg3 (Rect.unit (s := S3x3x512x1280) ![1, 1, 0, 0] S1x1x512x1280.size inb_S3x3x512x1280_S1x1x512x1280_1_1_0_0).toLoadRect (View.loadsAt_vmem h_S1x1x512x1280))
  let v13 : Vec F S1x1x512x1280 .fp8e4m3 ← Prog.lift (.load arg3 (Rect.unit (s := S3x3x512x1280) ![1, 2, 0, 0] S1x1x512x1280.size inb_S3x3x512x1280_S1x1x512x1280_1_2_0_0).toLoadRect (View.loadsAt_vmem h_S1x1x512x1280))
  let v16 : Vec F S1x1x512x1280 .fp8e4m3 ← Prog.lift (.load arg3 (Rect.unit (s := S3x3x512x1280) ![1, 0, 0, 0] S1x1x512x1280.size inb_S3x3x512x1280_S1x1x512x1280_1_0_0_0).toLoadRect (View.loadsAt_vmem h_S1x1x512x1280))
  let v20 : Vec F S1x1x512x1280 .fp8e4m3 ← Prog.lift (.load arg3 (Rect.unit (s := S3x3x512x1280) ![2, 1, 0, 0] S1x1x512x1280.size inb_S3x3x512x1280_S1x1x512x1280_2_1_0_0).toLoadRect (View.loadsAt_vmem h_S1x1x512x1280))
  let v24 : Vec F S1x1x512x1280 .fp8e4m3 ← Prog.lift (.load arg3 (Rect.unit (s := S3x3x512x1280) ![0, 1, 0, 0] S1x1x512x1280.size inb_S3x3x512x1280_S1x1x512x1280_0_1_0_0).toLoadRect (View.loadsAt_vmem h_S1x1x512x1280))
  pure ⟨arg1, k0_pay150 v4, k0_pay151 v7, k0_pay152 (F := F), k0_pay153 v4 v10, k0_pay154 v4 v7 v13 v16, k0_pay155 v4 v20, k0_pay156 v4, k0_pay157 v24⟩

/-- What every point runs: the nine products, scaled and stored. -/
def mainProg (i : grid0.Coords) (arg2 : Memref sig .tc .vmem S3x8x16x1280 .bf16) (harg2 : arg2.IsWhole) (arg3 : Memref sig .tc .vmem S3x3x512x1280 .fp8e4m3) (harg3 : arg3.IsWhole) (arg4 : Memref sig .tc .vmem S1x1280 .f32) (harg4 : arg4.IsWhole) (arg5 : Memref sig .tc .vmem S3x16x32x512 .bf16) (harg5 : arg5.IsWhole) (arg6 : Memref sig .tc .vmem S3x8x16x1280 .fp8e5m2) (harg6 : arg6.IsWhole) (arg7 : Memref sig .tc .smem S24 .f32) (harg7 : arg7.IsWhole) (arg8 : Memref sig .tc .vmem S8x384x1280 .bf16) (harg8 : arg8.IsWhole) (arg9 : Memref sig .tc .vmem S8x384x1280 .bf16) (harg9 : arg9.IsWhole) :
    Prog (TpuEff nD τ sig (Elt F) Λ₀ .tc) PUnit := do
  let ⟨arg1, v5, v8, v9, v12, v19, v22, v23, v25⟩ : Σ' (arg1 : BitVec 32) (v5 : FVec F S384x1280 .bf16) (v8 : FVec F S384x1280 .bf16) (v9 : FVec F S48x512 .f32) (v12 : FVec F S384x512 .f32) (v19 : FVec F S384x512 .f32) (v22 : FVec F S384x512 .f32) (v23 : FVec F S336x1280 .bf16), FVec F S512x1280 .fp8e4m3 ← loadProg i arg2 harg2 arg3 harg3 arg4 harg4 arg5 harg5 arg6 harg6 arg7 harg7 arg8 harg8 arg9 harg9
  let ⟨v28, v46, v50, v58⟩ : Σ' (v28 : FVec F S384x512 .f32) (v46 : FVec F S384x512 .f32) (v50 : Elt F .f32), FVec F S32x512 .bf16 ← k0_part26 i arg2 harg2 arg3 harg3 arg4 harg4 arg5 harg5 arg6 harg6 arg7 harg7 arg8 harg8 arg9 harg9 arg1 v5 v8 v9 v12 v19 v22 v23 v25
  let ⟨v97, v98⟩ : Σ' (v97 : FVec F S16x512 .f32), FVec F S16x512 .f32 ← k0_part27 i arg2 harg2 arg3 harg3 arg4 harg4 arg5 harg5 arg6 harg6 arg7 harg7 arg8 harg8 arg9 harg9 v12 v19 v28 v46 v50 v58
  let v135 : FVec F S32x512 .bf16 ← k0_part28 i arg2 harg2 arg3 harg3 arg4 harg4 arg5 harg5 arg6 harg6 arg7 harg7 arg8 harg8 arg9 harg9 v12 v19 v28 v46 v50 v97 v98
  let ⟨v174, v175, v176⟩ : Σ' (v174 : FVec F S16x512 .f32) (v175 : FVec F S16x512 .f32), FVec F S16x512 .f32 ← k0_part29 i arg2 harg2 arg3 harg3 arg4 harg4 arg5 harg5 arg6 harg6 arg7 harg7 arg8 harg8 arg9 harg9 v12 v19 v28 v46 v50 v135
  let ⟨v212, v213⟩ : Σ' (v212 : FVec F S32x512 .bf16), Vec F S1x1x32x512 .bf16 ← k0_part30 i arg2 harg2 arg3 harg3 arg4 harg4 arg5 harg5 arg6 harg6 arg7 harg7 arg8 harg8 arg9 harg9 v12 v19 v28 v46 v50 v174 v175 v176
  let v230 : Elt F .f32 ← k0_part31 i arg2 harg2 arg3 harg3 arg4 harg4 arg5 harg5 arg6 harg6 arg7 harg7 arg8 harg8 arg9 harg9 arg1 v12 v19 v28 v46 v50 v212 v213
  let v293 : FVec F S32x512 .bf16 ← k0_part32 i arg2 harg2 arg3 harg3 arg4 harg4 arg5 harg5 arg6 harg6 arg7 harg7 arg8 harg8 arg9 harg9 v12 v19 v28 v46 v230
  let v330 : FVec F S16x512 .f32 ← k0_part33 i arg2 harg2 arg3 harg3 arg4 harg4 arg5 harg5 arg6 harg6 arg7 harg7 arg8 harg8 arg9 harg9 v12 v19 v28 v46 v230 v293
  let v370 : FVec F S32x512 .bf16 ← k0_part34 i arg2 harg2 arg3 harg3 arg4 harg4 arg5 harg5 arg6 harg6 arg7 harg7 arg8 harg8 arg9 harg9 v12 v19 v28 v46 v230 v330
  let v407 : BitVec 32 ← k0_part35 i arg2 harg2 arg3 harg3 arg4 harg4 arg5 harg5 arg6 harg6 arg7 harg7 arg8 harg8 arg9 harg9 arg1 v12 v19 v28 v46 v230 v370
  let ⟨v410, v446, v447, v448⟩ : Σ' (v410 : Elt F .f32) (v446 : FVec F S16x512 .f32) (v447 : FVec F S16x512 .f32), FVec F S16x512 .f32 ← k0_part36 i arg2 harg2 arg3 harg3 arg4 harg4 arg5 harg5 arg6 harg6 arg7 harg7 arg8 harg8 arg9 harg9 v12 v19 v28 v46 v407
  let ⟨v484, v485⟩ : Σ' (v484 : FVec F S32x512 .bf16), Vec F S1x1x32x512 .bf16 ← k0_part37 i arg2 harg2 arg3 harg3 arg4 harg4 arg5 harg5 arg6 harg6 arg7 harg7 arg8 harg8 arg9 harg9 v12 v19 v28 v46 v410 v446 v447 v448
  let ⟨v523, v526⟩ : Σ' (v523 : FVec F S16x512 .f32), FVec F S16x512 .f32 ← k0_part38 i arg2 harg2 arg3 harg3 arg4 harg4 arg5 harg5 arg6 harg6 arg7 harg7 arg8 harg8 arg9 harg9 v12 v19 v28 v46 v410 v484 v485
  let v561 : FVec F S32x512 .bf16 ← k0_part39 i arg2 harg2 arg3 harg3 arg4 harg4 arg5 harg5 arg6 harg6 arg7 harg7 arg8 harg8 arg9 harg9 v12 v19 v28 v46 v410 v523 v526
  Prog.lift (.store arg5 (Rect.unit (s := S3x16x32x512) ![2, 13, 0, 0] S1x1x32x512.size inb_S3x16x32x512_S1x1x32x512_2_13_0_0) (k0_pay1 v561) Finset.univ (View.stores_vmem h_S1x1x32x512 (harg5.storeExact_slice rfl _ packedbf16_S3x16x32x512_S1x1x32x512_2_13_0_0) (fun _ => rfl)) (.inl rfl))
  let v573 : Vec F S1x1x32x512 .bf16 ← Prog.lift (.load arg5 (Rect.unit (s := S3x16x32x512) ![2, 14, 0, 0] S1x1x32x512.size inb_S3x16x32x512_S1x1x32x512_2_14_0_0).toLoadRect (View.loadsAt_vmem h_S1x1x32x512))
  Prog.lift (.store arg5 (Rect.unit (s := S3x16x32x512) ![2, 14, 0, 0] S1x1x32x512.size inb_S3x16x32x512_S1x1x32x512_2_14_0_0) (k0_pay2 v12 v19 v410) Finset.univ (View.stores_vmem h_S1x1x32x512 (harg5.storeExact_slice rfl _ packedbf16_S3x16x32x512_S1x1x32x512_2_14_0_0) (fun _ => rfl)) (.inl rfl))
  let v584 : Vec F S1x1x32x512 .bf16 ← Prog.lift (.load arg5 (Rect.unit (s := S3x16x32x512) ![2, 15, 0, 0] S1x1x32x512.size inb_S3x16x32x512_S1x1x32x512_2_15_0_0).toLoadRect (View.loadsAt_vmem h_S1x1x32x512))
  Prog.lift (.store arg5 (Rect.unit (s := S3x16x32x512) ![2, 15, 0, 0] S1x1x32x512.size inb_S3x16x32x512_S1x1x32x512_2_15_0_0) (k0_pay3 v28 v46 v410) Finset.univ (View.stores_vmem h_S1x1x32x512 (harg5.storeExact_slice rfl _ packedbf16_S3x16x32x512_S1x1x32x512_2_15_0_0) (fun _ => rfl)) (.inl rfl))
  pure ⟨⟩

/-- The body is the guarded quantisation followed by the products. -/
theorem cc0_dgrad_eq (i : grid0.Coords) (arg2 : Memref sig .tc .vmem S3x8x16x1280 .bf16) (harg2 : arg2.IsWhole) (arg3 : Memref sig .tc .vmem S3x3x512x1280 .fp8e4m3) (harg3 : arg3.IsWhole) (arg4 : Memref sig .tc .vmem S1x1280 .f32) (harg4 : arg4.IsWhole) (arg5 : Memref sig .tc .vmem S3x16x32x512 .bf16) (harg5 : arg5.IsWhole) (arg6 : Memref sig .tc .vmem S3x8x16x1280 .fp8e5m2) (harg6 : arg6.IsWhole) (arg7 : Memref sig .tc .smem S24 .f32) (harg7 : arg7.IsWhole) (arg8 : Memref sig .tc .vmem S8x384x1280 .bf16) (harg8 : arg8.IsWhole) (arg9 : Memref sig .tc .vmem S8x384x1280 .bf16) (harg9 : arg9.IsWhole) :
    cc0_dgrad (F := F) i arg2 harg2 arg3 harg3 arg4 harg4 arg5 harg5 arg6 harg6 arg7 harg7 arg8 harg8 arg9 harg9
      = ((if k0_h1 : k0_cond1 i = 1#1 then quantProg (F := F) i arg2 harg2 arg3 harg3 arg4 harg4 arg5 harg5 arg6 harg6 arg7 harg7 arg8 harg8 arg9 harg9 k0_h1 else pure ⟨⟩)
          >>= fun _ => mainProg (F := F) i arg2 harg2 arg3 harg3 arg4 harg4 arg5 harg5 arg6 harg6 arg7 harg7 arg8 harg8 arg9 harg9) := by
  simp only [cc0_dgrad_eq_skeleton]
  unfold cc0_dgrad_skel mainProg
  rw [k0_part25_eq_skeleton]
  unfold k0_part25_skel
  by_cases h : k0_cond1 i = 1#1
  · simp only [dif_pos h]
    unfold quantProg loadProg
    simp only [bind_assoc, pure_bind]
  · simp only [dif_neg h]
    unfold loadProg
    simp only [bind_assoc, pure_bind]

end Cert.KernelIdeal.Run

end
-- ==== Proof.MainSpec.lean ====
module

public import proofs.«01_k».proof.Proof.Split
public import Idealize.ShloMosaic.Lib.Pointwise
public import Idealize.ShloMosaic.Lib.CellWrites
public import Idealize.ShloMosaic.Lib.Pipeline.FrameBody

@[expose] public section

set_option maxRecDepth 16384

noncomputable section

namespace Cert.KernelIdeal.Run

open Cert.KernelIdeal.Gen
open Idealize.ShloMosaic Idealize.ShloMosaic.TcCoe

/-! ## The nine products of one group, by index -/

/-- One product: row `r` of the left operand against row `n` of one tap. -/
def dotp (d : Fin 384 → Fin 1280 → EReal) (w : Fin 512 → Fin 1280 → EReal) (r : Fin 384) (n : Fin 512) : EReal :=
  ∑ k : Fin 1280, d r k * w n k

/-- The same product one image row further down, 0 below the last image row. -/
def nextp (d : Fin 384 → Fin 1280 → EReal) (w : Fin 512 → Fin 1280 → EReal) (r : Fin 384) (n : Fin 512) : EReal :=
  if h : r.val < 336 then dotp d w ⟨48 + r.val, by omega⟩ n else 0

/-- The sum of products at an output row of parity `py` and an output column of parity `px`. -/
def accp (d ds : Fin 384 → Fin 1280 → EReal) (w : Fin 3 → Fin 3 → Fin 512 → Fin 1280 → EReal) (py px : ℕ) (r : Fin 384)
    (n : Fin 512) : EReal :=
  if py = 0 then
    if px = 0 then dotp d (w 1 1) r n else dotp d (w 1 2) r n + dotp ds (w 1 0) r n
  else
    if px = 0 then dotp d (w 2 1) r n + nextp d (w 0 1) r n
    else dotp d (w 2 2) r n + dotp ds (w 2 0) r n + (nextp d (w 0 2) r n + nextp ds (w 0 0) r n)

/-- The block of the input gradient one point stores, of the group's rows, the taps and the three scales. -/
def dxBlk (d ds : Fin 384 → Fin 1280 → EReal) (w : Fin 3 → Fin 3 → Fin 512 → Fin 1280 → EReal) (s : Fin 3 → EReal) :
    Vec Ideal S3x16x32x512 .bf16 := fun j =>
  accp d ds w ((j 1).val % 2) ((j 2).val % 2)
    ⟨((j 1).val / 2 * 3 + (j 0).val) * 16 + (j 2).val / 2, by
      have h0 : (j 0).val < 3 := (j 0).isLt
      have h1 : (j 1).val < 16 := (j 1).isLt
      have h2 : (j 2).val < 32 := (j 2).isLt
      omega⟩ (j 3) * s (j 0)

/-- Rows of a loaded slab. -/
def rowsOf (v : Vec Ideal S1x384x1280 .bf16) (r : Fin 384) (k : Fin 1280) : EReal := v (ix3 0 r k)
/-- Rows of a loaded tap. -/
def tapOf (v : Vec Ideal S1x1x512x1280 .fp8e4m3) (n : Fin 512) (k : Fin 1280) : EReal := v (ix4 0 0 n k)

theorem pay153_apply (v4 : Vec Ideal S1x384x1280 .bf16) (v10 : Vec Ideal S1x1x512x1280 .fp8e4m3) (r : Fin 384) (n : Fin 512) :
    k0_pay153 v4 v10 (ix2 r n) = dotp (rowsOf v4) (tapOf v10) r n := by
  unfold k0_pay153 k0_pay150 dotp rowsOf tapOf
  pointwise [dot_S384x1280_S512x1280_S384x512_1_1_0_0_n_n]

theorem pay154_apply (v4 v7 : Vec Ideal S1x384x1280 .bf16) (v13 v16 : Vec Ideal S1x1x512x1280 .fp8e4m3) (r : Fin 384) (n : Fin 512) :
    k0_pay154 v4 v7 v13 v16 (ix2 r n) = dotp (rowsOf v4) (tapOf v13) r n + dotp (rowsOf v7) (tapOf v16) r n := by
  unfold k0_pay154 k0_pay150 k0_pay151 dotp rowsOf tapOf
  pointwise [dot_S384x1280_S512x1280_S384x512_1_1_0_0_n_n]

theorem pay158_apply (v4 : Vec Ideal S1x384x1280 .bf16) (v20 v24 : Vec Ideal S1x1x512x1280 .fp8e4m3) (r : Fin 384) (n : Fin 512) :
    k0_pay158 k0_pay152 (k0_pay155 v4 v20) (k0_pay156 v4) (k0_pay157 v24) (ix2 r n)
      = dotp (rowsOf v4) (tapOf v20) r n + nextp (rowsOf v4) (tapOf v24) r n := by
  unfold k0_pay158 k0_pay152 k0_pay155 k0_pay156 k0_pay157 k0_pay150 nextp dotp rowsOf tapOf
  pointwise [dot_S384x1280_S512x1280_S384x512_1_1_0_0_n_n, dot_S336x1280_S512x1280_S336x512_1_1_0_0_n_n]

theorem pay159_apply (v4 v7 : Vec Ideal S1x384x1280 .bf16) (v29 v32 v37 v41 : Vec Ideal S1x1x512x1280 .fp8e4m3) (r : Fin 384) (n : Fin 512) :
    k0_pay159 (k0_pay150 v4) (k0_pay151 v7) k0_pay152 v29 v32 v37 v41 (ix2 r n)
      = dotp (rowsOf v4) (tapOf v29) r n + dotp (rowsOf v7) (tapOf v32) r n
        + (nextp (rowsOf v4) (tapOf v37) r n + nextp (rowsOf v7) (tapOf v41) r n) := by
  unfold k0_pay159 k0_pay152 k0_pay151 k0_pay150 nextp dotp rowsOf tapOf
  pointwise [dot_S384x1280_S512x1280_S384x512_1_1_0_0_n_n, dot_S336x1280_S512x1280_S336x512_1_1_0_0_n_n]
  split
  · rfl
  · simp

/-- One stored pair of rows: sixteen rows of the left and of the right accumulator from row `off`, scaled, interleaved. -/
def pk (off : ℕ) (h : S384x512.Slices ![off, 0] S16x512) (L R : FVec Ideal S384x512 .f32) (s : Elt Ideal .f32) : FVec Ideal S1x1x32x512 .bf16 :=
  shapeCast S1x1x32x512 (interleaveRows S32x512 (truncf .bf16 (mulf (extractStridedSlice S16x512 ![off, 0] L h) (broadcast S16x512 s)))
    (truncf .bf16 (mulf (extractStridedSlice S16x512 ![off, 0] R h) (broadcast S16x512 s))) bitcasts_S32x512_w16_S16x512_w32)
    shapeCasts_S32x512_S1x1x32x512

theorem pk_apply (off : ℕ) (h) (L R : FVec Ideal S384x512 .f32) (s : Elt Ideal .f32) (x : Fin 32) (n : Fin 512) (hr : off + x.val / 2 < 384) :
    pk off h L R s (ix4 0 0 x n) = (if x.val % 2 = 0 then L else R) (ix2 ⟨off + x.val / 2, hr⟩ n) * s := by
  unfold pk
  pointwise
  split <;> rfl

theorem dx_piece (d ds : Fin 384 → Fin 1280 → EReal) (w : Fin 3 → Fin 3 → Fin 512 → Fin 1280 → EReal) (sv : Fin 3 → EReal)
    (L R : FVec Ideal S384x512 .f32) (p : ℕ) (hp : p < 2)
    (hL : ∀ r n, L (ix2 r n) = accp d ds w p 0 r n) (hR : ∀ r n, R (ix2 r n) = accp d ds w p 1 r n)
    (i o : ℕ) (hi : i < 3) (ho : o < 8) (off row : ℕ) (hoff : off = (o * 3 + i) * 16) (hrow : row = 2 * o + p)
    (h : S384x512.Slices ![off, 0] S16x512) (inb : ∀ a, (![i, row, 0, 0] : Fin 4 → ℕ) a + S1x1x32x512.size a ≤ S3x16x32x512.size a)
    (x : (Rect.unit (s := S3x16x32x512) ![i, row, 0, 0] S1x1x32x512.size inb).shape.Idx) :
    pk off h L R (sv ⟨i, hi⟩) x = dxBlk d ds w sv ((Rect.unit (s := S3x16x32x512) ![i, row, 0, 0] S1x1x32x512.size inb).emb x) := by
  obtain ⟨x2, x3, rfl⟩ : ∃ (x2 : Fin 32) (x3 : Fin 512), x = ix4 0 0 x2 x3 := by
    refine ⟨x 2, x 3, ?_⟩
    funext a
    match a with
    | ⟨0, _⟩ => exact Subsingleton.elim (α := Fin 1) _ _
    | ⟨1, _⟩ => exact Subsingleton.elim (α := Fin 1) _ _
    | ⟨2, _⟩ => rfl
    | ⟨3, _⟩ => rfl
  have hx2 := x2.isLt
  rw [pk_apply off h L R _ x2 x3 (by omega)]
  generalize hE : (Rect.unit (s := S3x16x32x512) ![i, row, 0, 0] S1x1x32x512.size inb).emb (ix4 0 0 x2 x3) = E
  have e0 : (E 0).val = i := by subst hE; show i + 1 * 0 = i; omega
  have e1 : (E 1).val = row := by subst hE; show row + 1 * 0 = row; omega
  have e2 : (E 2).val = x2.val := by subst hE; show 0 + 1 * x2.val = x2.val; omega
  have e3 : E 3 = x3 := by subst hE; exact Fin.ext (show 0 + 1 * x3.val = x3.val by omega)
  have e0' : E 0 = (⟨i, hi⟩ : Fin 3) := Fin.ext e0
  unfold dxBlk
  have hr : (⟨((E 1).val / 2 * 3 + (E 0).val) * 16 + (E 2).val / 2, by rw [e0, e1, e2]; omega⟩ : Fin 384)
      = ⟨off + x2.val / 2, by omega⟩ := Fin.ext (by
    show ((E 1).val / 2 * 3 + (E 0).val) * 16 + (E 2).val / 2 = off + x2.val / 2
    rw [e0, e1, e2]; omega)
  rw [hr, e3, e0', e1, e2, show row % 2 = p by omega]
  rcases Nat.mod_two_eq_zero_or_one x2.val with h2 | h2
  · rw [h2, if_pos rfl, hL]
  · rw [h2, if_neg (by decide), hR]

/-- Writes whose every payload is the target read through its rectangle leave the target wherever they cover. -/
theorem read_writes_target {κ : Kind} {sp : Space} {s : Shape} {e : EltTy} {Val : EltTy → Type} (v : View sig κ sp s e)
    (f : v.ty.Contents Val) (T : s.Idx → Val e) (y : s.Idx) :
    ∀ L : List (View.Piece Val s e), (∀ p ∈ L, ∀ x : p.1.shape.Idx, p.2 x = T (p.1.emb x)) → (∃ p ∈ L, y ∈ p.1.set) →
      v.read Val (v.writes Val f L) y = T y
  | [], _, h => by obtain ⟨_, hm, _⟩ := h; exact absurd hm List.not_mem_nil
  | p :: L, hP, h => by
    by_cases hy : y ∈ p.1.set
    · obtain ⟨x, rfl⟩ : ∃ x, p.1.emb x = y := p.1.exists_idx_of_mem hy
      rw [View.read_writes_cons_emb]
      exact hP p List.mem_cons_self x
    · have hy' : y ∉ Finset.univ.map p.1.emb := by rwa [Rect.map_emb_univ]
      rw [View.writes_cons, View.read_slice_write_of_not_mem p.1 _ _ _ hy']
      refine read_writes_target v f T y L (fun q hq => hP q (List.mem_cons_of_mem _ hq)) ?_
      obtain ⟨q, hq, hyq⟩ := h
      rcases List.mem_cons.mp hq with rfl | hq'
      · exact absurd hyq hy
      · exact ⟨q, hq', hyq⟩

/-- Writes none of whose rectangles holds an index leave it as it was. -/
theorem read_writes_off {κ : Kind} {sp : Space} {s : Shape} {e : EltTy} {Val : EltTy → Type} (v : View sig κ sp s e)
    (f : v.ty.Contents Val) (y : s.Idx) :
    ∀ L : List (View.Piece Val s e), (∀ p ∈ L, y ∉ p.1.set) → v.read Val (v.writes Val f L) y = v.read Val f y
  | [], _ => rfl
  | p :: L, hP => by
    have hy' : y ∉ Finset.univ.map p.1.emb := by rw [Rect.map_emb_univ]; exact hP p List.mem_cons_self
    rw [View.writes_cons, View.read_slice_write_of_not_mem p.1 _ _ _ hy']
    exact read_writes_off v f y L fun q hq => hP q (List.mem_cons_of_mem _ hq)

/-- The forty-eight stores of one point, last first. -/
def dxPieces (EE EO OE OO : FVec Ideal S384x512 .f32) (s0 s1 s2 : Elt Ideal .f32) : List (View.Piece (Elt Ideal) S3x16x32x512 .bf16) :=
  [⟨Rect.unit ![2, 15, 0, 0] S1x1x32x512.size inb_S3x16x32x512_S1x1x32x512_2_15_0_0, pk 368 slices_S384x512_o368_0_S16x512 OE OO s2⟩,
   ⟨Rect.unit ![2, 14, 0, 0] S1x1x32x512.size inb_S3x16x32x512_S1x1x32x512_2_14_0_0, pk 368 slices_S384x512_o368_0_S16x512 EE EO s2⟩,
   ⟨Rect.unit ![2, 13, 0, 0] S1x1x32x512.size inb_S3x16x32x512_S1x1x32x512_2_13_0_0, pk 320 slices_S384x512_o320_0_S16x512 OE OO s2⟩,
   ⟨Rect.unit ![2, 12, 0, 0] S1x1x32x512.size inb_S3x16x32x512_S1x1x32x512_2_12_0_0, pk 320 slices_S384x512_o320_0_S16x512 EE EO s2⟩,
   ⟨Rect.unit ![2, 11, 0, 0] S1x1x32x512.size inb_S3x16x32x512_S1x1x32x512_2_11_0_0, pk 272 slices_S384x512_o272_0_S16x512 OE OO s2⟩,
   ⟨Rect.unit ![2, 10, 0, 0] S1x1x32x512.size inb_S3x16x32x512_S1x1x32x512_2_10_0_0, pk 272 slices_S384x512_o272_0_S16x512 EE EO s2⟩,
   ⟨Rect.unit ![2, 9, 0, 0] S1x1x32x512.size inb_S3x16x32x512_S1x1x32x512_2_9_0_0, pk 224 slices_S384x512_o224_0_S16x512 OE OO s2⟩,
   ⟨Rect.unit ![2, 8, 0, 0] S1x1x32x512.size inb_S3x16x32x512_S1x1x32x512_2_8_0_0, pk 224 slices_S384x512_o224_0_S16x512 EE EO s2⟩,
   ⟨Rect.unit ![2, 7, 0, 0] S1x1x32x512.size inb_S3x16x32x512_S1x1x32x512_2_7_0_0, pk 176 slices_S384x512_o176_0_S16x512 OE OO s2⟩,
   ⟨Rect.unit ![2, 6, 0, 0] S1x1x32x512.size inb_S3x16x32x512_S1x1x32x512_2_6_0_0, pk 176 slices_S384x512_o176_0_S16x512 EE EO s2⟩,
   ⟨Rect.unit ![2, 5, 0, 0] S1x1x32x512.size inb_S3x16x32x512_S1x1x32x512_2_5_0_0, pk 128 slices_S384x512_o128_0_S16x512 OE OO s2⟩,
   ⟨Rect.unit ![2, 4, 0, 0] S1x1x32x512.size inb_S3x16x32x512_S1x1x32x512_2_4_0_0, pk 128 slices_S384x512_o128_0_S16x512 EE EO s2⟩,
   ⟨Rect.unit ![2, 3, 0, 0] S1x1x32x512.size inb_S3x16x32x512_S1x1x32x512_2_3_0_0, pk 80 slices_S384x512_o80_0_S16x512 OE OO s2⟩,
   ⟨Rect.unit ![2, 2, 0, 0] S1x1x32x512.size inb_S3x16x32x512_S1x1x32x512_2_2_0_0, pk 80 slices_S384x512_o80_0_S16x512 EE EO s2⟩,
   ⟨Rect.unit ![2, 1, 0, 0] S1x1x32x512.size inb_S3x16x32x512_S1x1x32x512_2_1_0_0, pk 32 slices_S384x512_o32_0_S16x512 OE OO s2⟩,
   ⟨Rect.unit ![2, 0, 0, 0] S1x1x32x512.size inb_S3x16x32x512_S1x1x32x512_2_0_0_0, pk 32 slices_S384x512_o32_0_S16x512 EE EO s2⟩,
   ⟨Rect.unit ![1, 15, 0, 0] S1x1x32x512.size inb_S3x16x32x512_S1x1x32x512_1_15_0_0, pk 352 slices_S384x512_o352_0_S16x512 OE OO s1⟩,
   ⟨Rect.unit ![1, 14, 0, 0] S1x1x32x512.size inb_S3x16x32x512_S1x1x32x512_1_14_0_0, pk 352 slices_S384x512_o352_0_S16x512 EE EO s1⟩,
   ⟨Rect.unit ![1, 13, 0, 0] S1x1x32x512.size inb_S3x16x32x512_S1x1x32x512_1_13_0_0, pk 304 slices_S384x512_o304_0_S16x512 OE OO s1⟩,
   ⟨Rect.unit ![1, 12, 0, 0] S1x1x32x512.size inb_S3x16x32x512_S1x1x32x512_1_12_0_0, pk 304 slices_S384x512_o304_0_S16x512 EE EO s1⟩,
   ⟨Rect.unit ![1, 11, 0, 0] S1x1x32x512.size inb_S3x16x32x512_S1x1x32x512_1_11_0_0, pk 256 slices_S384x512_o256_0_S16x512 OE OO s1⟩,
   ⟨Rect.unit ![1, 10, 0, 0] S1x1x32x512.size inb_S3x16x32x512_S1x1x32x512_1_10_0_0, pk 256 slices_S384x512_o256_0_S16x512 EE EO s1⟩,
   ⟨Rect.unit ![1, 9, 0, 0] S1x1x32x512.size inb_S3x16x32x512_S1x1x32x512_1_9_0_0, pk 208 slices_S384x512_o208_0_S16x512 OE OO s1⟩,
   ⟨Rect.unit ![1, 8, 0, 0] S1x1x32x512.size inb_S3x16x32x512_S1x1x32x512_1_8_0_0, pk 208 slices_S384x512_o208_0_S16x512 EE EO s1⟩,
   ⟨Rect.unit ![1, 7, 0, 0] S1x1x32x512.size inb_S3x16x32x512_S1x1x32x512_1_7_0_0, pk 160 slices_S384x512_o160_0_S16x512 OE OO s1⟩,
   ⟨Rect.unit ![1, 6, 0, 0] S1x1x32x512.size inb_S3x16x32x512_S1x1x32x512_1_6_0_0, pk 160 slices_S384x512_o160_0_S16x512 EE EO s1⟩,
   ⟨Rect.unit ![1, 5, 0, 0] S1x1x32x512.size inb_S3x16x32x512_S1x1x32x512_1_5_0_0, pk 112 slices_S384x512_o112_0_S16x512 OE OO s1⟩,
   ⟨Rect.unit ![1, 4, 0, 0] S1x1x32x512.size inb_S3x16x32x512_S1x1x32x512_1_4_0_0, pk 112 slices_S384x512_o112_0_S16x512 EE EO s1⟩,
   ⟨Rect.unit ![1, 3, 0, 0] S1x1x32x512.size inb_S3x16x32x512_S1x1x32x512_1_3_0_0, pk 64 slices_S384x512_o64_0_S16x512 OE OO s1⟩,
   ⟨Rect.unit ![1, 2, 0, 0] S1x1x32x512.size inb_S3x16x32x512_S1x1x32x512_1_2_0_0, pk 64 slices_S384x512_o64_0_S16x512 EE EO s1⟩,
   ⟨Rect.unit ![1, 1, 0, 0] S1x1x32x512.size inb_S3x16x32x512_S1x1x32x512_1_1_0_0, pk 16 slices_S384x512_o16_0_S16x512 OE OO s1⟩,
   ⟨Rect.unit ![1, 0, 0, 0] S1x1x32x512.size inb_S3x16x32x512_S1x1x32x512_1_0_0_0, pk 16 slices_S384x512_o16_0_S16x512 EE EO s1⟩,
   ⟨Rect.unit ![0, 15, 0, 0] S1x1x32x512.size inb_S3x16x32x512_S1x1x32x512_0_15_0_0, pk 336 slices_S384x512_o336_0_S16x512 OE OO s0⟩,
   ⟨Rect.unit ![0, 14, 0, 0] S1x1x32x512.size inb_S3x16x32x512_S1x1x32x512_0_14_0_0, pk 336 slices_S384x512_o336_0_S16x512 EE EO s0⟩,
   ⟨Rect.unit ![0, 13, 0, 0] S1x1x32x512.size inb_S3x16x32x512_S1x1x32x512_0_13_0_0, pk 288 slices_S384x512_o288_0_S16x512 OE OO s0⟩,
   ⟨Rect.unit ![0, 12, 0, 0] S1x1x32x512.size inb_S3x16x32x512_S1x1x32x512_0_12_0_0, pk 288 slices_S384x512_o288_0_S16x512 EE EO s0⟩,
   ⟨Rect.unit ![0, 11, 0, 0] S1x1x32x512.size inb_S3x16x32x512_S1x1x32x512_0_11_0_0, pk 240 slices_S384x512_o240_0_S16x512 OE OO s0⟩,
   ⟨Rect.unit ![0, 10, 0, 0] S1x1x32x512.size inb_S3x16x32x512_S1x1x32x512_0_10_0_0, pk 240 slices_S384x512_o240_0_S16x512 EE EO s0⟩,
   ⟨Rect.unit ![0, 9, 0, 0] S1x1x32x512.size inb_S3x16x32x512_S1x1x32x512_0_9_0_0, pk 192 slices_S384x512_o192_0_S16x512 OE OO s0⟩,
   ⟨Rect.unit ![0, 8, 0, 0] S1x1x32x512.size inb_S3x16x32x512_S1x1x32x512_0_8_0_0, pk 192 slices_S384x512_o192_0_S16x512 EE EO s0⟩,
   ⟨Rect.unit ![0, 7, 0, 0] S1x1x32x512.size inb_S3x16x32x512_S1x1x32x512_0_7_0_0, pk 144 slices_S384x512_o144_0_S16x512 OE OO s0⟩,
   ⟨Rect.unit ![0, 6, 0, 0] S1x1x32x512.size inb_S3x16x32x512_S1x1x32x512_0_6_0_0, pk 144 slices_S384x512_o144_0_S16x512 EE EO s0⟩,
   ⟨Rect.unit ![0, 5, 0, 0] S1x1x32x512.size inb_S3x16x32x512_S1x1x32x512_0_5_0_0, pk 96 slices_S384x512_o96_0_S16x512 OE OO s0⟩,
   ⟨Rect.unit ![0, 4, 0, 0] S1x1x32x512.size inb_S3x16x32x512_S1x1x32x512_0_4_0_0, pk 96 slices_S384x512_o96_0_S16x512 EE EO s0⟩,
   ⟨Rect.unit ![0, 3, 0, 0] S1x1x32x512.size inb_S3x16x32x512_S1x1x32x512_0_3_0_0, pk 48 slices_S384x512_o48_0_S16x512 OE OO s0⟩,
   ⟨Rect.unit ![0, 2, 0, 0] S1x1x32x512.size inb_S3x16x32x512_S1x1x32x512_0_2_0_0, pk 48 slices_S384x512_o48_0_S16x512 EE EO s0⟩,
   ⟨Rect.unit ![0, 1, 0, 0] S1x1x32x512.size inb_S3x16x32x512_S1x1x32x512_0_1_0_0, pk 0 slices_S384x512_o0_0_S16x512 OE OO s0⟩,
   ⟨Rect.unit ![0, 0, 0, 0] S1x1x32x512.size inb_S3x16x32x512_S1x1x32x512_0_0_0_0, pk 0 slices_S384x512_o0_0_S16x512 EE EO s0⟩]

theorem dx_writes_eq {κ : Kind} {sp : Space} (v : View sig κ sp S3x16x32x512 .bf16) (f : v.ty.Contents (Elt Ideal))
    (d ds : Fin 384 → Fin 1280 → EReal) (w : Fin 3 → Fin 3 → Fin 512 → Fin 1280 → EReal) (sv : Fin 3 → EReal)
    (EE EO OE OO : FVec Ideal S384x512 .f32)
    (hEE : ∀ r n, EE (ix2 r n) = accp d ds w 0 0 r n) (hEO : ∀ r n, EO (ix2 r n) = accp d ds w 0 1 r n)
    (hOE : ∀ r n, OE (ix2 r n) = accp d ds w 1 0 r n) (hOO : ∀ r n, OO (ix2 r n) = accp d ds w 1 1 r n) :
    v.read (Elt Ideal) (v.writes (Elt Ideal) f (dxPieces EE EO OE OO (sv 0) (sv 1) (sv 2))) = dxBlk d ds w sv := by
  funext y
  apply read_writes_target
  · unfold dxPieces
    simp only [List.forall_mem_cons]
    refine ⟨dx_piece d ds w sv OE OO 1 (by decide) hOE hOO 2 7 (by decide) (by decide) 368 15 rfl rfl _ _,
      dx_piece d ds w sv EE EO 0 (by decide) hEE hEO 2 7 (by decide) (by decide) 368 14 rfl rfl _ _,
      dx_piece d ds w sv OE OO 1 (by decide) hOE hOO 2 6 (by decide) (by decide) 320 13 rfl rfl _ _,
      dx_piece d ds w sv EE EO 0 (by decide) hEE hEO 2 6 (by decide) (by decide) 320 12 rfl rfl _ _,
      dx_piece d ds w sv OE OO 1 (by decide) hOE hOO 2 5 (by decide) (by decide) 272 11 rfl rfl _ _,
      dx_piece d ds w sv EE EO 0 (by decide) hEE hEO 2 5 (by decide) (by decide) 272 10 rfl rfl _ _,
      dx_piece d ds w sv OE OO 1 (by decide) hOE hOO 2 4 (by decide) (by decide) 224 9 rfl rfl _ _,
      dx_piece d ds w sv EE EO 0 (by decide) hEE hEO 2 4 (by decide) (by decide) 224 8 rfl rfl _ _,
      dx_piece d ds w sv OE OO 1 (by decide) hOE hOO 2 3 (by decide) (by decide) 176 7 rfl rfl _ _,
      dx_piece d ds w sv EE EO 0 (by decide) hEE hEO 2 3 (by decide) (by decide) 176 6 rfl rfl _ _,
      dx_piece d ds w sv OE OO 1 (by decide) hOE hOO 2 2 (by decide) (by decide) 128 5 rfl rfl _ _,
      dx_piece d ds w sv EE EO 0 (by decide) hEE hEO 2 2 (by decide) (by decide) 128 4 rfl rfl _ _,
      dx_piece d ds w sv OE OO 1 (by decide) hOE hOO 2 1 (by decide) (by decide) 80 3 rfl rfl _ _,
      dx_piece d ds w sv EE EO 0 (by decide) hEE hEO 2 1 (by decide) (by decide) 80 2 rfl rfl _ _,
      dx_piece d ds w sv OE OO 1 (by decide) hOE hOO 2 0 (by decide) (by decide) 32 1 rfl rfl _ _,
      dx_piece d ds w sv EE EO 0 (by decide) hEE hEO 2 0 (by decide) (by decide) 32 0 rfl rfl _ _,
      dx_piece d ds w sv OE OO 1 (by decide) hOE hOO 1 7 (by decide) (by decide) 352 15 rfl rfl _ _,
      dx_piece d ds w sv EE EO 0 (by decide) hEE hEO 1 7 (by decide) (by decide) 352 14 rfl rfl _ _,
      dx_piece d ds w sv OE OO 1 (by decide) hOE hOO 1 6 (by decide) (by decide) 304 13 rfl rfl _ _,
      dx_piece d ds w sv EE EO 0 (by decide) hEE hEO 1 6 (by decide) (by decide) 304 12 rfl rfl _ _,
      dx_piece d ds w sv OE OO 1 (by decide) hOE hOO 1 5 (by decide) (by decide) 256 11 rfl rfl _ _,
      dx_piece d ds w sv EE EO 0 (by decide) hEE hEO 1 5 (by decide) (by decide) 256 10 rfl rfl _ _,
      dx_piece d ds w sv OE OO 1 (by decide) hOE hOO 1 4 (by decide) (by decide) 208 9 rfl rfl _ _,
      dx_piece d ds w sv EE EO 0 (by decide) hEE hEO 1 4 (by decide) (by decide) 208 8 rfl rfl _ _,
      dx_piece d ds w sv OE OO 1 (by decide) hOE hOO 1 3 (by decide) (by decide) 160 7 rfl rfl _ _,
      dx_piece d ds w sv EE EO 0 (by decide) hEE hEO 1 3 (by decide) (by decide) 160 6 rfl rfl _ _,
      dx_piece d ds w sv OE OO 1 (by decide) hOE hOO 1 2 (by decide) (by decide) 112 5 rfl rfl _ _,
      dx_piece d ds w sv EE EO 0 (by decide) hEE hEO 1 2 (by decide) (by decide) 112 4 rfl rfl _ _,
      dx_piece d ds w sv OE OO 1 (by decide) hOE hOO 1 1 (by decide) (by decide) 64 3 rfl rfl _ _,
      dx_piece d ds w sv EE EO 0 (by decide) hEE hEO 1 1 (by decide) (by decide) 64 2 rfl rfl _ _,
      dx_piece d ds w sv OE OO 1 (by decide) hOE hOO 1 0 (by decide) (by decide) 16 1 rfl rfl _ _,
      dx_piece d ds w sv EE EO 0 (by decide) hEE hEO 1 0 (by decide) (by decide) 16 0 rfl rfl _ _,
      dx_piece d ds w sv OE OO 1 (by decide) hOE hOO 0 7 (by decide) (by decide) 336 15 rfl rfl _ _,
      dx_piece d ds w sv EE EO 0 (by decide) hEE hEO 0 7 (by decide) (by decide) 336 14 rfl rfl _ _,
      dx_piece d ds w sv OE OO 1 (by decide) hOE hOO 0 6 (by decide) (by decide) 288 13 rfl rfl _ _,
      dx_piece d ds w sv EE EO 0 (by decide) hEE hEO 0 6 (by decide) (by decide) 288 12 rfl rfl _ _,
      dx_piece d ds w sv OE OO 1 (by decide) hOE hOO 0 5 (by decide) (by decide) 240 11 rfl rfl _ _,
      dx_piece d ds w sv EE EO 0 (by decide) hEE hEO 0 5 (by decide) (by decide) 240 10 rfl rfl _ _,
      dx_piece d ds w sv OE OO 1 (by decide) hOE hOO 0 4 (by decide) (by decide) 192 9 rfl rfl _ _,
      dx_piece d ds w sv EE EO 0 (by decide) hEE hEO 0 4 (by decide) (by decide) 192 8 rfl rfl _ _,
      dx_piece d ds w sv OE OO 1 (by decide) hOE hOO 0 3 (by decide) (by decide) 144 7 rfl rfl _ _,
      dx_piece d ds w sv EE EO 0 (by decide) hEE hEO 0 3 (by decide) (by decide) 144 6 rfl rfl _ _,
      dx_piece d ds w sv OE OO 1 (by decide) hOE hOO 0 2 (by decide) (by decide) 96 5 rfl rfl _ _,
      dx_piece d ds w sv EE EO 0 (by decide) hEE hEO 0 2 (by decide) (by decide) 96 4 rfl rfl _ _,
      dx_piece d ds w sv OE OO 1 (by decide) hOE hOO 0 1 (by decide) (by decide) 48 3 rfl rfl _ _,
      dx_piece d ds w sv EE EO 0 (by decide) hEE hEO 0 1 (by decide) (by decide) 48 2 rfl rfl _ _,
      dx_piece d ds w sv OE OO 1 (by decide) hOE hOO 0 0 (by decide) (by decide) 0 1 rfl rfl _ _,
      dx_piece d ds w sv EE EO 0 (by decide) hEE hEO 0 0 (by decide) (by decide) 0 0 rfl rfl _ _, ?_⟩
    simp
  · exact View.cover_of_tiled (dxPieces EE EO OE OO (sv 0) (sv 1) (sv 2)) S1x1x32x512.size (by rfl) y

end Cert.KernelIdeal.Run

end
-- ==== Proof.QuantSpec.lean ====
module

public import proofs.«01_k».proof.Proof.MainSpec

@[expose] public section

set_option maxRecDepth 16384

noncomputable section

namespace Cert.KernelIdeal.Run

open Cert.KernelIdeal.Gen
open Idealize.ShloMosaic Idealize.ShloMosaic.TcCoe

/-! ## The quantised group, by index -/

/-- The image group of a point. -/
def grp (i : grid0.Coords) : Fin 8 := i 1

/-- Clipping to the finite range of the code's format. -/
def clip (x : EReal) : EReal := min (Ideal.ofBits .f32 0x47600000#32) (max (Ideal.ofBits .f32 0xC7600000#32) x)

theorem code_apply (inv : EReal) (v : Vec Ideal S1x1x16x1280 .bf16) (c : Fin 16) (k : Fin 1280) :
    k0_pay8 (F := Ideal) inv v (ix4 0 0 c k) = clip (v (ix4 0 0 c k) * inv) := by
  unfold k0_pay8 k0_pay7 clip
  pointwise

theorem d_apply (ws : Vec Ideal S1x1280 .f32) (inv : EReal) (v : Vec Ideal S1x1x16x1280 .bf16) (c : Fin 16) (k : Fin 1280) :
    k0_pay10 (F := Ideal) (k0_pay4 ws) inv v (ix3 0 c k) = clip (v (ix4 0 0 c k) * inv) * ws (ix2 0 k) := by
  unfold k0_pay10 k0_pay9 k0_pay7 k0_pay4 clip
  pointwise

theorem ds_apply (ws : Vec Ideal S1x1280 .f32) (inv : EReal) (v : Vec Ideal S1x1x16x1280 .bf16) (c : Fin 16) (k : Fin 1280) :
    k0_pay11 (F := Ideal) (k0_pay4 ws) inv v (ix3 0 c k)
      = if h : c.val < 15 then clip (v (ix4 0 0 ⟨c.val + 1, by omega⟩ k) * inv) * ws (ix2 0 k) else 0 := by
  unfold k0_pay11 k0_pay9 k0_pay7 k0_pay4 clip
  pointwise
  have hc := c.isLt
  by_cases h : c.val < 15
  · rw [dif_pos h]
    have e : (⟨(c.val + 16 - 15) % 16, Nat.mod_lt _ (by decide)⟩ : Fin 16) = ⟨c.val + 1, by omega⟩ := Fin.ext (by
      show (c.val + 16 - 15) % 16 = c.val + 1; omega)
    have hs : IntOp.cmpi CmpIPredicate.eq (BitVec.ofNat 32 c.val) 15#32 = 0#1 := by
      have key : ∀ q : Fin 16, q.val < 15 → IntOp.cmpi CmpIPredicate.eq (BitVec.ofNat 32 q.val) 15#32 = 0#1 := by decide
      exact key c h
    rw [hs]
    simp only [Scalar.select]
    rw [if_neg (by decide)]
    exact congrArg (fun q : Fin 16 => min (Ideal.ofBits FTy.f32 1197473792#32)
          (max (Ideal.ofBits FTy.f32 3344957440#32) (v (ix4 0 0 q k) * inv)) * ws (ix2 0 k)) e
  · rw [dif_neg h]
    have hs : IntOp.cmpi CmpIPredicate.eq (BitVec.ofNat 32 c.val) 15#32 = 1#1 := by
      have : c.val = 15 := by omega
      rw [this]; rfl
    rw [hs]
    rfl

/-- Image `i` of the staged group, as the block its maximum is taken over. -/
def img (X : Vec Ideal S3x8x16x1280 .bf16) (i : Fin 3) : Vec Ideal S1x8x16x1280 .bf16 := fun j => X (ix4 i (j 1) (j 2) (j 3))

/-- The scale and the inverse scale of an image. -/
def scaleOf (X : Vec Ideal S3x8x16x1280 .bf16) (i : Fin 3) : EReal := k0_pay5 (F := Ideal) (img X i)
def invOf (X : Vec Ideal S3x8x16x1280 .bf16) (i : Fin 3) : EReal := k0_pay6 (F := Ideal) (img X i)

/-- The codes of the staged group. -/
def codesBlk (X : Vec Ideal S3x8x16x1280 .bf16) : Vec Ideal S3x8x16x1280 .fp8e5m2 := fun j => clip (X j * invOf X (j 0))

/-- The scaled codes by row: row `(o * 3 + i) * 16 + c` is pixel `(o, c)` of image `i`. -/
def dRow (X : Vec Ideal S3x8x16x1280 .bf16) (ws : Vec Ideal S1x1280 .f32) (r : Fin 384) (k : Fin 1280) : EReal :=
  clip (X (ix4 ⟨r.val / 16 % 3, by omega⟩ ⟨r.val / 48, by omega⟩ ⟨r.val % 16, by omega⟩ k) * invOf X ⟨r.val / 16 % 3, by omega⟩) * ws (ix2 0 k)

/-- The same rows one pixel to the right, 0 past the last pixel of an image row. -/
def dsRow (X : Vec Ideal S3x8x16x1280 .bf16) (ws : Vec Ideal S1x1280 .f32) (r : Fin 384) (k : Fin 1280) : EReal :=
  if h : r.val % 16 < 15 then dRow X ws ⟨r.val + 1, by omega⟩ k else 0

/-- The scratch buffers after a group's quantisation. -/
def dUpd (g : Fin 8) (X : Vec Ideal S3x8x16x1280 .bf16) (ws : Vec Ideal S1x1280 .f32) (D : Vec Ideal S8x384x1280 .bf16) : Vec Ideal S8x384x1280 .bf16 :=
  fun j => if (j 0).val = g.val then dRow X ws (j 1) (j 2) else D j
def dsUpd (g : Fin 8) (X : Vec Ideal S3x8x16x1280 .bf16) (ws : Vec Ideal S1x1280 .f32) (D : Vec Ideal S8x384x1280 .bf16) : Vec Ideal S8x384x1280 .bf16 :=
  fun j => if (j 0).val = g.val then dsRow X ws (j 1) (j 2) else D j
/-- The scale words after a group's quantisation. -/
def scaleUpd (g : Fin 8) (X : Vec Ideal S3x8x16x1280 .bf16) (c5 : Vec Ideal S24 .f32) : Vec Ideal S24 .f32 :=
  fun j => if (j 0).val / 3 = g.val then scaleOf X ⟨(j 0).val % 3, by omega⟩ else c5 j

/-- A loaded row of pixels. -/
def pix (X : Vec Ideal S3x8x16x1280 .bf16) (i o : ℕ) (inb : ∀ a, (![i, o, 0, 0] : Fin 4 → ℕ) a + S1x1x16x1280.size a ≤ S3x8x16x1280.size a) :
    Vec Ideal S1x1x16x1280 .bf16 := View.ld X (Rect.unit (s := S3x8x16x1280) ![i, o, 0, 0] S1x1x16x1280.size inb)

theorem pix_apply (X : Vec Ideal S3x8x16x1280 .bf16) (i o : ℕ) (hi : i < 3) (ho : o < 8) (inb) (c : Fin 16) (k : Fin 1280) :
    pix X i o inb (ix4 0 0 c k) = X (ix4 ⟨i, hi⟩ ⟨o, ho⟩ c k) := by
  unfold pix
  show X _ = X _
  congr 1
  funext t
  refine Fin.ext ?_
  match t with
  | ⟨0, _⟩ => show i + 1 * 0 = i; omega
  | ⟨1, _⟩ => show o + 1 * 0 = o; omega
  | ⟨2, _⟩ => show 0 + 1 * c.val = c.val; omega
  | ⟨3, _⟩ => show 0 + 1 * k.val = k.val; omega

/-- A loaded image block. -/
def ldImg (X : Vec Ideal S3x8x16x1280 .bf16) (i : ℕ) (inb : ∀ a, (![i, 0, 0, 0] : Fin 4 → ℕ) a + S1x8x16x1280.size a ≤ S3x8x16x1280.size a) :
    Vec Ideal S1x8x16x1280 .bf16 := View.ld X (Rect.unit (s := S3x8x16x1280) ![i, 0, 0, 0] S1x8x16x1280.size inb)

theorem ldImg_eq (X : Vec Ideal S3x8x16x1280 .bf16) (i : ℕ) (hi : i < 3) (inb) : ldImg X i inb = img X ⟨i, hi⟩ := by
  funext j
  unfold ldImg img
  show X _ = X _
  congr 1
  funext t
  refine Fin.ext ?_
  match t with
  | ⟨0, _⟩ => show i + 1 * (j 0).val = i; have : (j 0).val < 1 := (j 0).isLt; omega
  | ⟨1, _⟩ => show 0 + 1 * (j 1).val = (j 1).val; omega
  | ⟨2, _⟩ => show 0 + 1 * (j 2).val = (j 2).val; omega
  | ⟨3, _⟩ => show 0 + 1 * (j 3).val = (j 3).val; omega

theorem ix4_row (x : S1x1x16x1280.Idx) : ∃ (c : Fin 16) (k : Fin 1280), x = ix4 0 0 c k := by
  refine ⟨x 2, x 3, ?_⟩
  funext a
  match a with
  | ⟨0, _⟩ => exact Subsingleton.elim (α := Fin 1) _ _
  | ⟨1, _⟩ => exact Subsingleton.elim (α := Fin 1) _ _
  | ⟨2, _⟩ => rfl
  | ⟨3, _⟩ => rfl

theorem ix3_row (x : S1x16x1280.Idx) : ∃ (c : Fin 16) (k : Fin 1280), x = ix3 0 c k := by
  refine ⟨x 1, x 2, ?_⟩
  funext a
  match a with
  | ⟨0, _⟩ => exact Subsingleton.elim (α := Fin 1) _ _
  | ⟨1, _⟩ => rfl
  | ⟨2, _⟩ => rfl

theorem code_piece (X : Vec Ideal S3x8x16x1280 .bf16) (i o : ℕ) (hi : i < 3) (ho : o < 8)
    (inb : ∀ a, (![i, o, 0, 0] : Fin 4 → ℕ) a + S1x1x16x1280.size a ≤ S3x8x16x1280.size a)
    (x : (Rect.unit (s := S3x8x16x1280) ![i, o, 0, 0] S1x1x16x1280.size inb).shape.Idx) :
    k0_pay8 (F := Ideal) (invOf X ⟨i, hi⟩) (pix X i o inb) x
      = codesBlk X ((Rect.unit (s := S3x8x16x1280) ![i, o, 0, 0] S1x1x16x1280.size inb).emb x) := by
  obtain ⟨c, k, rfl⟩ := ix4_row x
  refine (code_apply _ _ c k).trans ?_
  have e0 : (((Rect.unit (s := S3x8x16x1280) ![i, o, 0, 0] S1x1x16x1280.size inb).emb (ix4 0 0 c k)) 0 : Fin 3) = ⟨i, hi⟩ :=
    Fin.ext (by show i + 1 * 0 = i; omega)
  unfold codesBlk
  rw [e0]
  rfl

theorem d_piece (X : Vec Ideal S3x8x16x1280 .bf16) (ws : Vec Ideal S1x1280 .f32) (g : Fin 8) (D : Vec Ideal S8x384x1280 .bf16) (i o : ℕ) (hi : i < 3) (ho : o < 8)
    (off : Fin 3 → ℕ) (hoff : off = ![g.val, (o * 3 + i) * 16, 0])
    (inb : ∀ a, (![i, o, 0, 0] : Fin 4 → ℕ) a + S1x1x16x1280.size a ≤ S3x8x16x1280.size a)
    (inb' : ∀ a, off a + S1x16x1280.size a ≤ S8x384x1280.size a)
    (x : (Rect.unit (s := S8x384x1280) off S1x16x1280.size inb').shape.Idx) :
    k0_pay10 (F := Ideal) (k0_pay4 ws) (invOf X ⟨i, hi⟩) (pix X i o inb) x
      = dUpd g X ws D ((Rect.unit (s := S8x384x1280) off S1x16x1280.size inb').emb x) := by
  subst hoff
  obtain ⟨c, k, rfl⟩ := ix3_row x
  have hc := c.isLt
  refine (d_apply _ _ _ c k).trans ?_
  rw [pix_apply X i o hi ho]
  generalize hE : (Rect.unit (s := S8x384x1280) ![g.val, (o * 3 + i) * 16, 0] S1x16x1280.size inb').emb (ix3 0 c k) = E
  have e0 : E 0 = g := by subst hE; exact Fin.ext (show g.val + 1 * 0 = g.val by omega)
  have e1 : E 1 = (⟨(o * 3 + i) * 16 + c.val, by omega⟩ : Fin 384) := by
    subst hE; exact Fin.ext (show (o * 3 + i) * 16 + 1 * c.val = (o * 3 + i) * 16 + c.val by omega)
  have e2 : E 2 = k := by subst hE; exact Fin.ext (show 0 + 1 * k.val = k.val by omega)
  unfold dUpd
  rw [if_pos (congrArg Fin.val e0), e1, e2]
  unfold dRow
  have a0 : (⟨((o * 3 + i) * 16 + c.val) / 16 % 3, by omega⟩ : Fin 3) = ⟨i, hi⟩ := Fin.ext (by
    show ((o * 3 + i) * 16 + c.val) / 16 % 3 = i; omega)
  have a1 : (⟨((o * 3 + i) * 16 + c.val) / 48, by omega⟩ : Fin 8) = ⟨o, ho⟩ := Fin.ext (by
    show ((o * 3 + i) * 16 + c.val) / 48 = o; omega)
  have a2 : (⟨((o * 3 + i) * 16 + c.val) % 16, by omega⟩ : Fin 16) = c := Fin.ext (by
    show ((o * 3 + i) * 16 + c.val) % 16 = c.val; omega)
  rw [a0, a1, a2]

theorem ds_piece (X : Vec Ideal S3x8x16x1280 .bf16) (ws : Vec Ideal S1x1280 .f32) (g : Fin 8) (D : Vec Ideal S8x384x1280 .bf16) (i o : ℕ) (hi : i < 3) (ho : o < 8)
    (off : Fin 3 → ℕ) (hoff : off = ![g.val, (o * 3 + i) * 16, 0])
    (inb : ∀ a, (![i, o, 0, 0] : Fin 4 → ℕ) a + S1x1x16x1280.size a ≤ S3x8x16x1280.size a)
    (inb' : ∀ a, off a + S1x16x1280.size a ≤ S8x384x1280.size a)
    (x : (Rect.unit (s := S8x384x1280) off S1x16x1280.size inb').shape.Idx) :
    k0_pay11 (F := Ideal) (k0_pay4 ws) (invOf X ⟨i, hi⟩) (pix X i o inb) x
      = dsUpd g X ws D ((Rect.unit (s := S8x384x1280) off S1x16x1280.size inb').emb x) := by
  subst hoff
  obtain ⟨c, k, rfl⟩ := ix3_row x
  have hc := c.isLt
  refine (ds_apply _ _ _ c k).trans ?_
  generalize hE : (Rect.unit (s := S8x384x1280) ![g.val, (o * 3 + i) * 16, 0] S1x16x1280.size inb').emb (ix3 0 c k) = E
  have e0 : E 0 = g := by subst hE; exact Fin.ext (show g.val + 1 * 0 = g.val by omega)
  have e1 : E 1 = (⟨(o * 3 + i) * 16 + c.val, by omega⟩ : Fin 384) := by
    subst hE; exact Fin.ext (show (o * 3 + i) * 16 + 1 * c.val = (o * 3 + i) * 16 + c.val by omega)
  have e2 : E 2 = k := by subst hE; exact Fin.ext (show 0 + 1 * k.val = k.val by omega)
  unfold dsUpd
  rw [if_pos (congrArg Fin.val e0), e1, e2]
  unfold dsRow dRow
  by_cases h : c.val < 15
  · rw [dif_pos h, dif_pos (show ((o * 3 + i) * 16 + c.val) % 16 < 15 by omega), pix_apply X i o hi ho]
    have a0 : (⟨((o * 3 + i) * 16 + c.val + 1) / 16 % 3, by omega⟩ : Fin 3) = ⟨i, hi⟩ := Fin.ext (by
      show ((o * 3 + i) * 16 + c.val + 1) / 16 % 3 = i; omega)
    have a1 : (⟨((o * 3 + i) * 16 + c.val + 1) / 48, by omega⟩ : Fin 8) = ⟨o, ho⟩ := Fin.ext (by
      show ((o * 3 + i) * 16 + c.val + 1) / 48 = o; omega)
    have a2 : (⟨((o * 3 + i) * 16 + c.val + 1) % 16, by omega⟩ : Fin 16) = ⟨c.val + 1, by omega⟩ := Fin.ext (by
      show ((o * 3 + i) * 16 + c.val + 1) % 16 = c.val + 1; omega)
    rw [a0, a1, a2]
  · rw [dif_neg h, dif_neg (show ¬ ((o * 3 + i) * 16 + c.val) % 16 < 15 by omega)]

/-! ## The offsets of the scratch buffers' rows and of the scale words -/

theorem off2_eq (i : grid0.Coords) : k0_off2 i = ![(grp i).val, 0, 0] := by
  have h : (i 1).val < 8 := (grp i).isLt
  unfold k0_off2 grp
  simp only [Scalar.indexCast, BitVec.toNat_ofNat]
  rw [Nat.mod_eq_of_lt (by omega)]

theorem off3_eq (i : grid0.Coords) : k0_off3 i = ![(grp i).val, 48, 0] := by
  have h : (i 1).val < 8 := (grp i).isLt
  unfold k0_off3 grp
  simp only [Scalar.indexCast, BitVec.toNat_ofNat]
  rw [Nat.mod_eq_of_lt (by omega)]

theorem off4_eq (i : grid0.Coords) : k0_off4 i = ![(grp i).val, 96, 0] := by
  have h : (i 1).val < 8 := (grp i).isLt
  unfold k0_off4 grp
  simp only [Scalar.indexCast, BitVec.toNat_ofNat]
  rw [Nat.mod_eq_of_lt (by omega)]

theorem off5_eq (i : grid0.Coords) : k0_off5 i = ![(grp i).val, 144, 0] := by
  have h : (i 1).val < 8 := (grp i).isLt
  unfold k0_off5 grp
  simp only [Scalar.indexCast, BitVec.toNat_ofNat]
  rw [Nat.mod_eq_of_lt (by omega)]

theorem off6_eq (i : grid0.Coords) : k0_off6 i = ![(grp i).val, 192, 0] := by
  have h : (i 1).val < 8 := (grp i).isLt
  unfold k0_off6 grp
  simp only [Scalar.indexCast, BitVec.toNat_ofNat]
  rw [Nat.mod_eq_of_lt (by omega)]

theorem off7_eq (i : grid0.Coords) : k0_off7 i = ![(grp i).val, 240, 0] := by
  have h : (i 1).val < 8 := (grp i).isLt
  unfold k0_off7 grp
  simp only [Scalar.indexCast, BitVec.toNat_ofNat]
  rw [Nat.mod_eq_of_lt (by omega)]

theorem off8_eq (i : grid0.Coords) : k0_off8 i = ![(grp i).val, 288, 0] := by
  have h : (i 1).val < 8 := (grp i).isLt
  unfold k0_off8 grp
  simp only [Scalar.indexCast, BitVec.toNat_ofNat]
  rw [Nat.mod_eq_of_lt (by omega)]

theorem off9_eq (i : grid0.Coords) : k0_off9 i = ![(grp i).val, 336, 0] := by
  have h : (i 1).val < 8 := (grp i).isLt
  unfold k0_off9 grp
  simp only [Scalar.indexCast, BitVec.toNat_ofNat]
  rw [Nat.mod_eq_of_lt (by omega)]

theorem off10_eq (i : grid0.Coords) : k0_off10 i = ![(grp i).val, 16, 0] := by
  have h : (i 1).val < 8 := (grp i).isLt
  unfold k0_off10 grp
  simp only [Scalar.indexCast, BitVec.toNat_ofNat]
  rw [Nat.mod_eq_of_lt (by omega)]

theorem off11_eq (i : grid0.Coords) : k0_off11 i = ![(grp i).val, 64, 0] := by
  have h : (i 1).val < 8 := (grp i).isLt
  unfold k0_off11 grp
  simp only [Scalar.indexCast, BitVec.toNat_ofNat]
  rw [Nat.mod_eq_of_lt (by omega)]

theorem off12_eq (i : grid0.Coords) : k0_off12 i = ![(grp i).val, 112, 0] := by
  have h : (i 1).val < 8 := (grp i).isLt
  unfold k0_off12 grp
  simp only [Scalar.indexCast, BitVec.toNat_ofNat]
  rw [Nat.mod_eq_of_lt (by omega)]

theorem off13_eq (i : grid0.Coords) : k0_off13 i = ![(grp i).val, 160, 0] := by
  have h : (i 1).val < 8 := (grp i).isLt
  unfold k0_off13 grp
  simp only [Scalar.indexCast, BitVec.toNat_ofNat]
  rw [Nat.mod_eq_of_lt (by omega)]

theorem off14_eq (i : grid0.Coords) : k0_off14 i = ![(grp i).val, 208, 0] := by
  have h : (i 1).val < 8 := (grp i).isLt
  unfold k0_off14 grp
  simp only [Scalar.indexCast, BitVec.toNat_ofNat]
  rw [Nat.mod_eq_of_lt (by omega)]

theorem off15_eq (i : grid0.Coords) : k0_off15 i = ![(grp i).val, 256, 0] := by
  have h : (i 1).val < 8 := (grp i).isLt
  unfold k0_off15 grp
  simp only [Scalar.indexCast, BitVec.toNat_ofNat]
  rw [Nat.mod_eq_of_lt (by omega)]

theorem off16_eq (i : grid0.Coords) : k0_off16 i = ![(grp i).val, 304, 0] := by
  have h : (i 1).val < 8 := (grp i).isLt
  unfold k0_off16 grp
  simp only [Scalar.indexCast, BitVec.toNat_ofNat]
  rw [Nat.mod_eq_of_lt (by omega)]

theorem off17_eq (i : grid0.Coords) : k0_off17 i = ![(grp i).val, 352, 0] := by
  have h : (i 1).val < 8 := (grp i).isLt
  unfold k0_off17 grp
  simp only [Scalar.indexCast, BitVec.toNat_ofNat]
  rw [Nat.mod_eq_of_lt (by omega)]

theorem off18_eq (i : grid0.Coords) : k0_off18 i = ![(grp i).val, 32, 0] := by
  have h : (i 1).val < 8 := (grp i).isLt
  unfold k0_off18 grp
  simp only [Scalar.indexCast, BitVec.toNat_ofNat]
  rw [Nat.mod_eq_of_lt (by omega)]

theorem off19_eq (i : grid0.Coords) : k0_off19 i = ![(grp i).val, 80, 0] := by
  have h : (i 1).val < 8 := (grp i).isLt
  unfold k0_off19 grp
  simp only [Scalar.indexCast, BitVec.toNat_ofNat]
  rw [Nat.mod_eq_of_lt (by omega)]

theorem off20_eq (i : grid0.Coords) : k0_off20 i = ![(grp i).val, 128, 0] := by
  have h : (i 1).val < 8 := (grp i).isLt
  unfold k0_off20 grp
  simp only [Scalar.indexCast, BitVec.toNat_ofNat]
  rw [Nat.mod_eq_of_lt (by omega)]

theorem off21_eq (i : grid0.Coords) : k0_off21 i = ![(grp i).val, 176, 0] := by
  have h : (i 1).val < 8 := (grp i).isLt
  unfold k0_off21 grp
  simp only [Scalar.indexCast, BitVec.toNat_ofNat]
  rw [Nat.mod_eq_of_lt (by omega)]

theorem off22_eq (i : grid0.Coords) : k0_off22 i = ![(grp i).val, 224, 0] := by
  have h : (i 1).val < 8 := (grp i).isLt
  unfold k0_off22 grp
  simp only [Scalar.indexCast, BitVec.toNat_ofNat]
  rw [Nat.mod_eq_of_lt (by omega)]

theorem off23_eq (i : grid0.Coords) : k0_off23 i = ![(grp i).val, 272, 0] := by
  have h : (i 1).val < 8 := (grp i).isLt
  unfold k0_off23 grp
  simp only [Scalar.indexCast, BitVec.toNat_ofNat]
  rw [Nat.mod_eq_of_lt (by omega)]

theorem off24_eq (i : grid0.Coords) : k0_off24 i = ![(grp i).val, 320, 0] := by
  have h : (i 1).val < 8 := (grp i).isLt
  unfold k0_off24 grp
  simp only [Scalar.indexCast, BitVec.toNat_ofNat]
  rw [Nat.mod_eq_of_lt (by omega)]

theorem off25_eq (i : grid0.Coords) : k0_off25 i = ![(grp i).val, 368, 0] := by
  have h : (i 1).val < 8 := (grp i).isLt
  unfold k0_off25 grp
  simp only [Scalar.indexCast, BitVec.toNat_ofNat]
  rw [Nat.mod_eq_of_lt (by omega)]

theorem off1_eq (i : grid0.Coords) (r : Fin 3) : k0_off1 i (BitVec.ofNat 32 r.val) = ![3 * (grp i).val + r.val] := by
  have h : (i 1).val < 8 := (grp i).isLt
  have hr := r.isLt
  unfold k0_off1 grp
  simp only [Scalar.indexCast, Scalar.muli, Scalar.addi, IntOp.addi, IntOp.muli, BitVec.toNat_ofNat, BitVec.toNat_add, BitVec.toNat_mul]
  congr 1
  omega

/-! ## What a group's quantisation writes -/

/-- The stores of the codes, last first. -/
def codePieces (X : Vec Ideal S3x8x16x1280 .bf16) (v0 v1 v2 : EReal) : List (View.Piece (Elt Ideal) S3x8x16x1280 .fp8e5m2) :=
  [⟨Rect.unit ![2, 7, 0, 0] S1x1x16x1280.size inb_S3x8x16x1280_S1x1x16x1280_2_7_0_0, k0_pay8 (F := Ideal) v2 (pix X 2 7 inb_S3x8x16x1280_S1x1x16x1280_2_7_0_0)⟩,
   ⟨Rect.unit ![2, 6, 0, 0] S1x1x16x1280.size inb_S3x8x16x1280_S1x1x16x1280_2_6_0_0, k0_pay8 (F := Ideal) v2 (pix X 2 6 inb_S3x8x16x1280_S1x1x16x1280_2_6_0_0)⟩,
   ⟨Rect.unit ![2, 5, 0, 0] S1x1x16x1280.size inb_S3x8x16x1280_S1x1x16x1280_2_5_0_0, k0_pay8 (F := Ideal) v2 (pix X 2 5 inb_S3x8x16x1280_S1x1x16x1280_2_5_0_0)⟩,
   ⟨Rect.unit ![2, 4, 0, 0] S1x1x16x1280.size inb_S3x8x16x1280_S1x1x16x1280_2_4_0_0, k0_pay8 (F := Ideal) v2 (pix X 2 4 inb_S3x8x16x1280_S1x1x16x1280_2_4_0_0)⟩,
   ⟨Rect.unit ![2, 3, 0, 0] S1x1x16x1280.size inb_S3x8x16x1280_S1x1x16x1280_2_3_0_0, k0_pay8 (F := Ideal) v2 (pix X 2 3 inb_S3x8x16x1280_S1x1x16x1280_2_3_0_0)⟩,
   ⟨Rect.unit ![2, 2, 0, 0] S1x1x16x1280.size inb_S3x8x16x1280_S1x1x16x1280_2_2_0_0, k0_pay8 (F := Ideal) v2 (pix X 2 2 inb_S3x8x16x1280_S1x1x16x1280_2_2_0_0)⟩,
   ⟨Rect.unit ![2, 1, 0, 0] S1x1x16x1280.size inb_S3x8x16x1280_S1x1x16x1280_2_1_0_0, k0_pay8 (F := Ideal) v2 (pix X 2 1 inb_S3x8x16x1280_S1x1x16x1280_2_1_0_0)⟩,
   ⟨Rect.unit ![2, 0, 0, 0] S1x1x16x1280.size inb_S3x8x16x1280_S1x1x16x1280_2_0_0_0, k0_pay8 (F := Ideal) v2 (pix X 2 0 inb_S3x8x16x1280_S1x1x16x1280_2_0_0_0)⟩,
   ⟨Rect.unit ![1, 7, 0, 0] S1x1x16x1280.size inb_S3x8x16x1280_S1x1x16x1280_1_7_0_0, k0_pay8 (F := Ideal) v1 (pix X 1 7 inb_S3x8x16x1280_S1x1x16x1280_1_7_0_0)⟩,
   ⟨Rect.unit ![1, 6, 0, 0] S1x1x16x1280.size inb_S3x8x16x1280_S1x1x16x1280_1_6_0_0, k0_pay8 (F := Ideal) v1 (pix X 1 6 inb_S3x8x16x1280_S1x1x16x1280_1_6_0_0)⟩,
   ⟨Rect.unit ![1, 5, 0, 0] S1x1x16x1280.size inb_S3x8x16x1280_S1x1x16x1280_1_5_0_0, k0_pay8 (F := Ideal) v1 (pix X 1 5 inb_S3x8x16x1280_S1x1x16x1280_1_5_0_0)⟩,
   ⟨Rect.unit ![1, 4, 0, 0] S1x1x16x1280.size inb_S3x8x16x1280_S1x1x16x1280_1_4_0_0, k0_pay8 (F := Ideal) v1 (pix X 1 4 inb_S3x8x16x1280_S1x1x16x1280_1_4_0_0)⟩,
   ⟨Rect.unit ![1, 3, 0, 0] S1x1x16x1280.size inb_S3x8x16x1280_S1x1x16x1280_1_3_0_0, k0_pay8 (F := Ideal) v1 (pix X 1 3 inb_S3x8x16x1280_S1x1x16x1280_1_3_0_0)⟩,
   ⟨Rect.unit ![1, 2, 0, 0] S1x1x16x1280.size inb_S3x8x16x1280_S1x1x16x1280_1_2_0_0, k0_pay8 (F := Ideal) v1 (pix X 1 2 inb_S3x8x16x1280_S1x1x16x1280_1_2_0_0)⟩,
   ⟨Rect.unit ![1, 1, 0, 0] S1x1x16x1280.size inb_S3x8x16x1280_S1x1x16x1280_1_1_0_0, k0_pay8 (F := Ideal) v1 (pix X 1 1 inb_S3x8x16x1280_S1x1x16x1280_1_1_0_0)⟩,
   ⟨Rect.unit ![1, 0, 0, 0] S1x1x16x1280.size inb_S3x8x16x1280_S1x1x16x1280_1_0_0_0, k0_pay8 (F := Ideal) v1 (pix X 1 0 inb_S3x8x16x1280_S1x1x16x1280_1_0_0_0)⟩,
   ⟨Rect.unit ![0, 7, 0, 0] S1x1x16x1280.size inb_S3x8x16x1280_S1x1x16x1280_0_7_0_0, k0_pay8 (F := Ideal) v0 (pix X 0 7 inb_S3x8x16x1280_S1x1x16x1280_0_7_0_0)⟩,
   ⟨Rect.unit ![0, 6, 0, 0] S1x1x16x1280.size inb_S3x8x16x1280_S1x1x16x1280_0_6_0_0, k0_pay8 (F := Ideal) v0 (pix X 0 6 inb_S3x8x16x1280_S1x1x16x1280_0_6_0_0)⟩,
   ⟨Rect.unit ![0, 5, 0, 0] S1x1x16x1280.size inb_S3x8x16x1280_S1x1x16x1280_0_5_0_0, k0_pay8 (F := Ideal) v0 (pix X 0 5 inb_S3x8x16x1280_S1x1x16x1280_0_5_0_0)⟩,
   ⟨Rect.unit ![0, 4, 0, 0] S1x1x16x1280.size inb_S3x8x16x1280_S1x1x16x1280_0_4_0_0, k0_pay8 (F := Ideal) v0 (pix X 0 4 inb_S3x8x16x1280_S1x1x16x1280_0_4_0_0)⟩,
   ⟨Rect.unit ![0, 3, 0, 0] S1x1x16x1280.size inb_S3x8x16x1280_S1x1x16x1280_0_3_0_0, k0_pay8 (F := Ideal) v0 (pix X 0 3 inb_S3x8x16x1280_S1x1x16x1280_0_3_0_0)⟩,
   ⟨Rect.unit ![0, 2, 0, 0] S1x1x16x1280.size inb_S3x8x16x1280_S1x1x16x1280_0_2_0_0, k0_pay8 (F := Ideal) v0 (pix X 0 2 inb_S3x8x16x1280_S1x1x16x1280_0_2_0_0)⟩,
   ⟨Rect.unit ![0, 1, 0, 0] S1x1x16x1280.size inb_S3x8x16x1280_S1x1x16x1280_0_1_0_0, k0_pay8 (F := Ideal) v0 (pix X 0 1 inb_S3x8x16x1280_S1x1x16x1280_0_1_0_0)⟩,
   ⟨Rect.unit ![0, 0, 0, 0] S1x1x16x1280.size inb_S3x8x16x1280_S1x1x16x1280_0_0_0_0, k0_pay8 (F := Ideal) v0 (pix X 0 0 inb_S3x8x16x1280_S1x1x16x1280_0_0_0_0)⟩]

/-- The stores of the scaled codes, last first. -/
def dPieces (i : grid0.Coords) (h : k0_cond1 i = 1#1) (ws : Vec Ideal S1x1280 .f32) (X : Vec Ideal S3x8x16x1280 .bf16) (v0 v1 v2 : EReal) :
    List (View.Piece (Elt Ideal) S8x384x1280 .bf16) :=
  [⟨Rect.unit (k0_off25 i) S1x16x1280.size (k0_off25_inb i h), k0_pay10 (F := Ideal) (k0_pay4 ws) v2 (pix X 2 7 inb_S3x8x16x1280_S1x1x16x1280_2_7_0_0)⟩,
   ⟨Rect.unit (k0_off24 i) S1x16x1280.size (k0_off24_inb i h), k0_pay10 (F := Ideal) (k0_pay4 ws) v2 (pix X 2 6 inb_S3x8x16x1280_S1x1x16x1280_2_6_0_0)⟩,
   ⟨Rect.unit (k0_off23 i) S1x16x1280.size (k0_off23_inb i h), k0_pay10 (F := Ideal) (k0_pay4 ws) v2 (pix X 2 5 inb_S3x8x16x1280_S1x1x16x1280_2_5_0_0)⟩,
   ⟨Rect.unit (k0_off22 i) S1x16x1280.size (k0_off22_inb i h), k0_pay10 (F := Ideal) (k0_pay4 ws) v2 (pix X 2 4 inb_S3x8x16x1280_S1x1x16x1280_2_4_0_0)⟩,
   ⟨Rect.unit (k0_off21 i) S1x16x1280.size (k0_off21_inb i h), k0_pay10 (F := Ideal) (k0_pay4 ws) v2 (pix X 2 3 inb_S3x8x16x1280_S1x1x16x1280_2_3_0_0)⟩,
   ⟨Rect.unit (k0_off20 i) S1x16x1280.size (k0_off20_inb i h), k0_pay10 (F := Ideal) (k0_pay4 ws) v2 (pix X 2 2 inb_S3x8x16x1280_S1x1x16x1280_2_2_0_0)⟩,
   ⟨Rect.unit (k0_off19 i) S1x16x1280.size (k0_off19_inb i h), k0_pay10 (F := Ideal) (k0_pay4 ws) v2 (pix X 2 1 inb_S3x8x16x1280_S1x1x16x1280_2_1_0_0)⟩,
   ⟨Rect.unit (k0_off18 i) S1x16x1280.size (k0_off18_inb i h), k0_pay10 (F := Ideal) (k0_pay4 ws) v2 (pix X 2 0 inb_S3x8x16x1280_S1x1x16x1280_2_0_0_0)⟩,
   ⟨Rect.unit (k0_off17 i) S1x16x1280.size (k0_off17_inb i h), k0_pay10 (F := Ideal) (k0_pay4 ws) v1 (pix X 1 7 inb_S3x8x16x1280_S1x1x16x1280_1_7_0_0)⟩,
   ⟨Rect.unit (k0_off16 i) S1x16x1280.size (k0_off16_inb i h), k0_pay10 (F := Ideal) (k0_pay4 ws) v1 (pix X 1 6 inb_S3x8x16x1280_S1x1x16x1280_1_6_0_0)⟩,
   ⟨Rect.unit (k0_off15 i) S1x16x1280.size (k0_off15_inb i h), k0_pay10 (F := Ideal) (k0_pay4 ws) v1 (pix X 1 5 inb_S3x8x16x1280_S1x1x16x1280_1_5_0_0)⟩,
   ⟨Rect.unit (k0_off14 i) S1x16x1280.size (k0_off14_inb i h), k0_pay10 (F := Ideal) (k0_pay4 ws) v1 (pix X 1 4 inb_S3x8x16x1280_S1x1x16x1280_1_4_0_0)⟩,
   ⟨Rect.unit (k0_off13 i) S1x16x1280.size (k0_off13_inb i h), k0_pay10 (F := Ideal) (k0_pay4 ws) v1 (pix X 1 3 inb_S3x8x16x1280_S1x1x16x1280_1_3_0_0)⟩,
   ⟨Rect.unit (k0_off12 i) S1x16x1280.size (k0_off12_inb i h), k0_pay10 (F := Ideal) (k0_pay4 ws) v1 (pix X 1 2 inb_S3x8x16x1280_S1x1x16x1280_1_2_0_0)⟩,
   ⟨Rect.unit (k0_off11 i) S1x16x1280.size (k0_off11_inb i h), k0_pay10 (F := Ideal) (k0_pay4 ws) v1 (pix X 1 1 inb_S3x8x16x1280_S1x1x16x1280_1_1_0_0)⟩,
   ⟨Rect.unit (k0_off10 i) S1x16x1280.size (k0_off10_inb i h), k0_pay10 (F := Ideal) (k0_pay4 ws) v1 (pix X 1 0 inb_S3x8x16x1280_S1x1x16x1280_1_0_0_0)⟩,
   ⟨Rect.unit (k0_off9 i) S1x16x1280.size (k0_off9_inb i h), k0_pay10 (F := Ideal) (k0_pay4 ws) v0 (pix X 0 7 inb_S3x8x16x1280_S1x1x16x1280_0_7_0_0)⟩,
   ⟨Rect.unit (k0_off8 i) S1x16x1280.size (k0_off8_inb i h), k0_pay10 (F := Ideal) (k0_pay4 ws) v0 (pix X 0 6 inb_S3x8x16x1280_S1x1x16x1280_0_6_0_0)⟩,
   ⟨Rect.unit (k0_off7 i) S1x16x1280.size (k0_off7_inb i h), k0_pay10 (F := Ideal) (k0_pay4 ws) v0 (pix X 0 5 inb_S3x8x16x1280_S1x1x16x1280_0_5_0_0)⟩,
   ⟨Rect.unit (k0_off6 i) S1x16x1280.size (k0_off6_inb i h), k0_pay10 (F := Ideal) (k0_pay4 ws) v0 (pix X 0 4 inb_S3x8x16x1280_S1x1x16x1280_0_4_0_0)⟩,
   ⟨Rect.unit (k0_off5 i) S1x16x1280.size (k0_off5_inb i h), k0_pay10 (F := Ideal) (k0_pay4 ws) v0 (pix X 0 3 inb_S3x8x16x1280_S1x1x16x1280_0_3_0_0)⟩,
   ⟨Rect.unit (k0_off4 i) S1x16x1280.size (k0_off4_inb i h), k0_pay10 (F := Ideal) (k0_pay4 ws) v0 (pix X 0 2 inb_S3x8x16x1280_S1x1x16x1280_0_2_0_0)⟩,
   ⟨Rect.unit (k0_off3 i) S1x16x1280.size (k0_off3_inb i h), k0_pay10 (F := Ideal) (k0_pay4 ws) v0 (pix X 0 1 inb_S3x8x16x1280_S1x1x16x1280_0_1_0_0)⟩,
   ⟨Rect.unit (k0_off2 i) S1x16x1280.size (k0_off2_inb i h), k0_pay10 (F := Ideal) (k0_pay4 ws) v0 (pix X 0 0 inb_S3x8x16x1280_S1x1x16x1280_0_0_0_0)⟩]

/-- The stores of the shifted scaled codes, last first. -/
def dsPieces (i : grid0.Coords) (h : k0_cond1 i = 1#1) (ws : Vec Ideal S1x1280 .f32) (X : Vec Ideal S3x8x16x1280 .bf16) (v0 v1 v2 : EReal) :
    List (View.Piece (Elt Ideal) S8x384x1280 .bf16) :=
  [⟨Rect.unit (k0_off25 i) S1x16x1280.size (k0_off25_inb i h), k0_pay11 (F := Ideal) (k0_pay4 ws) v2 (pix X 2 7 inb_S3x8x16x1280_S1x1x16x1280_2_7_0_0)⟩,
   ⟨Rect.unit (k0_off24 i) S1x16x1280.size (k0_off24_inb i h), k0_pay11 (F := Ideal) (k0_pay4 ws) v2 (pix X 2 6 inb_S3x8x16x1280_S1x1x16x1280_2_6_0_0)⟩,
   ⟨Rect.unit (k0_off23 i) S1x16x1280.size (k0_off23_inb i h), k0_pay11 (F := Ideal) (k0_pay4 ws) v2 (pix X 2 5 inb_S3x8x16x1280_S1x1x16x1280_2_5_0_0)⟩,
   ⟨Rect.unit (k0_off22 i) S1x16x1280.size (k0_off22_inb i h), k0_pay11 (F := Ideal) (k0_pay4 ws) v2 (pix X 2 4 inb_S3x8x16x1280_S1x1x16x1280_2_4_0_0)⟩,
   ⟨Rect.unit (k0_off21 i) S1x16x1280.size (k0_off21_inb i h), k0_pay11 (F := Ideal) (k0_pay4 ws) v2 (pix X 2 3 inb_S3x8x16x1280_S1x1x16x1280_2_3_0_0)⟩,
   ⟨Rect.unit (k0_off20 i) S1x16x1280.size (k0_off20_inb i h), k0_pay11 (F := Ideal) (k0_pay4 ws) v2 (pix X 2 2 inb_S3x8x16x1280_S1x1x16x1280_2_2_0_0)⟩,
   ⟨Rect.unit (k0_off19 i) S1x16x1280.size (k0_off19_inb i h), k0_pay11 (F := Ideal) (k0_pay4 ws) v2 (pix X 2 1 inb_S3x8x16x1280_S1x1x16x1280_2_1_0_0)⟩,
   ⟨Rect.unit (k0_off18 i) S1x16x1280.size (k0_off18_inb i h), k0_pay11 (F := Ideal) (k0_pay4 ws) v2 (pix X 2 0 inb_S3x8x16x1280_S1x1x16x1280_2_0_0_0)⟩,
   ⟨Rect.unit (k0_off17 i) S1x16x1280.size (k0_off17_inb i h), k0_pay11 (F := Ideal) (k0_pay4 ws) v1 (pix X 1 7 inb_S3x8x16x1280_S1x1x16x1280_1_7_0_0)⟩,
   ⟨Rect.unit (k0_off16 i) S1x16x1280.size (k0_off16_inb i h), k0_pay11 (F := Ideal) (k0_pay4 ws) v1 (pix X 1 6 inb_S3x8x16x1280_S1x1x16x1280_1_6_0_0)⟩,
   ⟨Rect.unit (k0_off15 i) S1x16x1280.size (k0_off15_inb i h), k0_pay11 (F := Ideal) (k0_pay4 ws) v1 (pix X 1 5 inb_S3x8x16x1280_S1x1x16x1280_1_5_0_0)⟩,
   ⟨Rect.unit (k0_off14 i) S1x16x1280.size (k0_off14_inb i h), k0_pay11 (F := Ideal) (k0_pay4 ws) v1 (pix X 1 4 inb_S3x8x16x1280_S1x1x16x1280_1_4_0_0)⟩,
   ⟨Rect.unit (k0_off13 i) S1x16x1280.size (k0_off13_inb i h), k0_pay11 (F := Ideal) (k0_pay4 ws) v1 (pix X 1 3 inb_S3x8x16x1280_S1x1x16x1280_1_3_0_0)⟩,
   ⟨Rect.unit (k0_off12 i) S1x16x1280.size (k0_off12_inb i h), k0_pay11 (F := Ideal) (k0_pay4 ws) v1 (pix X 1 2 inb_S3x8x16x1280_S1x1x16x1280_1_2_0_0)⟩,
   ⟨Rect.unit (k0_off11 i) S1x16x1280.size (k0_off11_inb i h), k0_pay11 (F := Ideal) (k0_pay4 ws) v1 (pix X 1 1 inb_S3x8x16x1280_S1x1x16x1280_1_1_0_0)⟩,
   ⟨Rect.unit (k0_off10 i) S1x16x1280.size (k0_off10_inb i h), k0_pay11 (F := Ideal) (k0_pay4 ws) v1 (pix X 1 0 inb_S3x8x16x1280_S1x1x16x1280_1_0_0_0)⟩,
   ⟨Rect.unit (k0_off9 i) S1x16x1280.size (k0_off9_inb i h), k0_pay11 (F := Ideal) (k0_pay4 ws) v0 (pix X 0 7 inb_S3x8x16x1280_S1x1x16x1280_0_7_0_0)⟩,
   ⟨Rect.unit (k0_off8 i) S1x16x1280.size (k0_off8_inb i h), k0_pay11 (F := Ideal) (k0_pay4 ws) v0 (pix X 0 6 inb_S3x8x16x1280_S1x1x16x1280_0_6_0_0)⟩,
   ⟨Rect.unit (k0_off7 i) S1x16x1280.size (k0_off7_inb i h), k0_pay11 (F := Ideal) (k0_pay4 ws) v0 (pix X 0 5 inb_S3x8x16x1280_S1x1x16x1280_0_5_0_0)⟩,
   ⟨Rect.unit (k0_off6 i) S1x16x1280.size (k0_off6_inb i h), k0_pay11 (F := Ideal) (k0_pay4 ws) v0 (pix X 0 4 inb_S3x8x16x1280_S1x1x16x1280_0_4_0_0)⟩,
   ⟨Rect.unit (k0_off5 i) S1x16x1280.size (k0_off5_inb i h), k0_pay11 (F := Ideal) (k0_pay4 ws) v0 (pix X 0 3 inb_S3x8x16x1280_S1x1x16x1280_0_3_0_0)⟩,
   ⟨Rect.unit (k0_off4 i) S1x16x1280.size (k0_off4_inb i h), k0_pay11 (F := Ideal) (k0_pay4 ws) v0 (pix X 0 2 inb_S3x8x16x1280_S1x1x16x1280_0_2_0_0)⟩,
   ⟨Rect.unit (k0_off3 i) S1x16x1280.size (k0_off3_inb i h), k0_pay11 (F := Ideal) (k0_pay4 ws) v0 (pix X 0 1 inb_S3x8x16x1280_S1x1x16x1280_0_1_0_0)⟩,
   ⟨Rect.unit (k0_off2 i) S1x16x1280.size (k0_off2_inb i h), k0_pay11 (F := Ideal) (k0_pay4 ws) v0 (pix X 0 0 inb_S3x8x16x1280_S1x1x16x1280_0_0_0_0)⟩]

/-- The stores of the scale words, last first. -/
def scalePieces (i : grid0.Coords) (h : k0_cond1 i = 1#1) (s0 s1 s2 : EReal) : List (View.Piece (Elt Ideal) S24 .f32) :=
  [⟨Rect.unit (k0_off1 i 2#32) S1.size (k0_off1_inb i h 2), fun _ => s2⟩,
   ⟨Rect.unit (k0_off1 i 1#32) S1.size (k0_off1_inb i h 1), fun _ => s1⟩,
   ⟨Rect.unit (k0_off1 i 0#32) S1.size (k0_off1_inb i h 0), fun _ => s0⟩]

variable {κ : Kind} {sp : Space}

theorem code_writes_eq (v : View sig κ sp S3x8x16x1280 .fp8e5m2) (f : v.ty.Contents (Elt Ideal)) (X : Vec Ideal S3x8x16x1280 .bf16) :
    v.read (Elt Ideal) (v.writes (Elt Ideal) f (codePieces X (invOf X 0) (invOf X 1) (invOf X 2))) = codesBlk X := by
  funext y
  apply read_writes_target
  · unfold codePieces
    simp only [List.forall_mem_cons]
    refine ⟨code_piece X 2 7 (by decide) (by decide) _,
   code_piece X 2 6 (by decide) (by decide) _,
   code_piece X 2 5 (by decide) (by decide) _,
   code_piece X 2 4 (by decide) (by decide) _,
   code_piece X 2 3 (by decide) (by decide) _,
   code_piece X 2 2 (by decide) (by decide) _,
   code_piece X 2 1 (by decide) (by decide) _,
   code_piece X 2 0 (by decide) (by decide) _,
   code_piece X 1 7 (by decide) (by decide) _,
   code_piece X 1 6 (by decide) (by decide) _,
   code_piece X 1 5 (by decide) (by decide) _,
   code_piece X 1 4 (by decide) (by decide) _,
   code_piece X 1 3 (by decide) (by decide) _,
   code_piece X 1 2 (by decide) (by decide) _,
   code_piece X 1 1 (by decide) (by decide) _,
   code_piece X 1 0 (by decide) (by decide) _,
   code_piece X 0 7 (by decide) (by decide) _,
   code_piece X 0 6 (by decide) (by decide) _,
   code_piece X 0 5 (by decide) (by decide) _,
   code_piece X 0 4 (by decide) (by decide) _,
   code_piece X 0 3 (by decide) (by decide) _,
   code_piece X 0 2 (by decide) (by decide) _,
   code_piece X 0 1 (by decide) (by decide) _,
   code_piece X 0 0 (by decide) (by decide) _, ?_⟩
    simp
  · exact View.cover_of_tiled (codePieces X (invOf X 0) (invOf X 1) (invOf X 2)) S1x1x16x1280.size (by rfl) y

theorem mem_slab (off : Fin 3 → ℕ) (g : ℕ) (q : ℕ) (hoff : off = ![g, q * 16, 0]) (inb : ∀ a, off a + S1x16x1280.size a ≤ S8x384x1280.size a)
    (y : S8x384x1280.Idx) (h0 : (y 0).val = g) (h1 : (y 1).val / 16 = q) : y ∈ (Rect.unit (s := S8x384x1280) off S1x16x1280.size inb).set := by
  subst hoff
  rw [Rect.mem_set_unit]
  intro a
  match a with
  | ⟨0, _⟩ => exact ⟨by show g ≤ (y 0).val; omega, by show (y 0).val < g + 1; omega⟩
  | ⟨1, _⟩ => exact ⟨by show q * 16 ≤ (y 1).val; omega, by show (y 1).val < q * 16 + 16; omega⟩
  | ⟨2, _⟩ => exact ⟨Nat.zero_le _, by show (y 2).val < 0 + 1280; have : (y 2).val < 1280 := (y 2).isLt; omega⟩

theorem not_mem_slab (off : Fin 3 → ℕ) (g : ℕ) (q : ℕ) (hoff : off = ![g, q, 0]) (inb : ∀ a, off a + S1x16x1280.size a ≤ S8x384x1280.size a)
    (y : S8x384x1280.Idx) (h0 : (y 0).val ≠ g) : y ∉ (Rect.unit (s := S8x384x1280) off S1x16x1280.size inb).set := by
  subst hoff
  rw [Rect.mem_set_unit]
  intro h
  have h1 : g ≤ (y 0).val ∧ (y 0).val < g + 1 := h 0
  omega

theorem d_writes_eq (v : View sig κ sp S8x384x1280 .bf16) (f : v.ty.Contents (Elt Ideal)) (i : grid0.Coords) (h : k0_cond1 i = 1#1)
    (ws : Vec Ideal S1x1280 .f32) (X : Vec Ideal S3x8x16x1280 .bf16) :
    v.read (Elt Ideal) (v.writes (Elt Ideal) f (dPieces i h ws X (invOf X 0) (invOf X 1) (invOf X 2))) = dUpd (grp i) X ws (v.read (Elt Ideal) f) := by
  funext y
  by_cases h0 : (y 0).val = (grp i).val
  · apply read_writes_target
    · unfold dPieces
      simp only [List.forall_mem_cons]
      refine ⟨d_piece X ws (grp i) (v.read (Elt Ideal) f) 2 7 (by decide) (by decide) _ (off25_eq i) _ _,
   d_piece X ws (grp i) (v.read (Elt Ideal) f) 2 6 (by decide) (by decide) _ (off24_eq i) _ _,
   d_piece X ws (grp i) (v.read (Elt Ideal) f) 2 5 (by decide) (by decide) _ (off23_eq i) _ _,
   d_piece X ws (grp i) (v.read (Elt Ideal) f) 2 4 (by decide) (by decide) _ (off22_eq i) _ _,
   d_piece X ws (grp i) (v.read (Elt Ideal) f) 2 3 (by decide) (by decide) _ (off21_eq i) _ _,
   d_piece X ws (grp i) (v.read (Elt Ideal) f) 2 2 (by decide) (by decide) _ (off20_eq i) _ _,
   d_piece X ws (grp i) (v.read (Elt Ideal) f) 2 1 (by decide) (by decide) _ (off19_eq i) _ _,
   d_piece X ws (grp i) (v.read (Elt Ideal) f) 2 0 (by decide) (by decide) _ (off18_eq i) _ _,
   d_piece X ws (grp i) (v.read (Elt Ideal) f) 1 7 (by decide) (by decide) _ (off17_eq i) _ _,
   d_piece X ws (grp i) (v.read (Elt Ideal) f) 1 6 (by decide) (by decide) _ (off16_eq i) _ _,
   d_piece X ws (grp i) (v.read (Elt Ideal) f) 1 5 (by decide) (by decide) _ (off15_eq i) _ _,
   d_piece X ws (grp i) (v.read (Elt Ideal) f) 1 4 (by decide) (by decide) _ (off14_eq i) _ _,
   d_piece X ws (grp i) (v.read (Elt Ideal) f) 1 3 (by decide) (by decide) _ (off13_eq i) _ _,
   d_piece X ws (grp i) (v.read (Elt Ideal) f) 1 2 (by decide) (by decide) _ (off12_eq i) _ _,
   d_piece X ws (grp i) (v.read (Elt Ideal) f) 1 1 (by decide) (by decide) _ (off11_eq i) _ _,
   d_piece X ws (grp i) (v.read (Elt Ideal) f) 1 0 (by decide) (by decide) _ (off10_eq i) _ _,
   d_piece X ws (grp i) (v.read (Elt Ideal) f) 0 7 (by decide) (by decide) _ (off9_eq i) _ _,
   d_piece X ws (grp i) (v.read (Elt Ideal) f) 0 6 (by decide) (by decide) _ (off8_eq i) _ _,
   d_piece X ws (grp i) (v.read (Elt Ideal) f) 0 5 (by decide) (by decide) _ (off7_eq i) _ _,
   d_piece X ws (grp i) (v.read (Elt Ideal) f) 0 4 (by decide) (by decide) _ (off6_eq i) _ _,
   d_piece X ws (grp i) (v.read (Elt Ideal) f) 0 3 (by decide) (by decide) _ (off5_eq i) _ _,
   d_piece X ws (grp i) (v.read (Elt Ideal) f) 0 2 (by decide) (by decide) _ (off4_eq i) _ _,
   d_piece X ws (grp i) (v.read (Elt Ideal) f) 0 1 (by decide) (by decide) _ (off3_eq i) _ _,
   d_piece X ws (grp i) (v.read (Elt Ideal) f) 0 0 (by decide) (by decide) _ (off2_eq i) _ _, ?_⟩
      simp
    · have hg : (y 0).val = (grp i).val := h0
      have hq : (y 1).val / 16 < 24 := by have : (y 1).val < 384 := (y 1).isLt; omega
      generalize hqq : (y 1).val / 16 = q at hq
      unfold dPieces
      interval_cases q
      · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))), mem_slab _ (grp i).val 0 (off2_eq i) (k0_off2_inb i h) y hg hqq⟩
      · exact ⟨_, .tail _ (.tail _ (.tail _ (.tail _ (.tail _ (.tail _ (.tail _ (.tail _ (.tail _ (.tail _ (.tail _ (.tail _ (.tail _ (.tail _ (.tail _ (.head _))))))))))))))), mem_slab _ (grp i).val 1 (off10_eq i) (k0_off10_inb i h) y hg hqq⟩
      · exact ⟨_, .tail _ (.tail _ (.tail _ (.tail _ (.tail _ (.tail _ (.tail _ (.head _))))))), mem_slab _ (grp i).val 2 (off18_eq i) (k0_off18_inb i h) y hg hqq⟩
      · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))), mem_slab _ (grp i).val 3 (off3_eq i) (k0_off3_inb i h) y hg hqq⟩
      · exact ⟨_, .tail _ (.tail _ (.tail _ (.tail _ (.tail _ (.tail _ (.tail _ (.tail _ (.tail _ (.tail _ (.tail _ (.tail _ (.tail _ (.tail _ (.head _)))))))))))))), mem_slab _ (grp i).val 4 (off11_eq i) (k0_off11_inb i h) y hg hqq⟩
      · exact ⟨_, .tail _ (.tail _ (.tail _ (.tail _ (.tail _ (.tail _ (.head _)))))), mem_slab _ (grp i).val 5 (off19_eq i) (k0_off19_inb i h) y hg hqq⟩
      · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))), mem_slab _ (grp i).val 6 (off4_eq i) (k0_off4_inb i h) y hg hqq⟩
      · exact ⟨_, .tail _ (.tail _ (.tail _ (.tail _ (.tail _ (.tail _ (.tail _ (.tail _ (.tail _ (.tail _ (.tail _ (.tail _ (.tail _ (.head _))))))))))))), mem_slab _ (grp i).val 7 (off12_eq i) (k0_off12_inb i h) y hg hqq⟩
      · exact ⟨_, .tail _ (.tail _ (.tail _ (.tail _ (.tail _ (.head _))))), mem_slab _ (grp i).val 8 (off20_eq i) (k0_off20_inb i h) y hg hqq⟩
      · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))), mem_slab _ (grp i).val 9 (off5_eq i) (k0_off5_inb i h) y hg hqq⟩
      · exact ⟨_, .tail _ (.tail _ (.tail _ (.tail _ (.tail _ (.tail _ (.tail _ (.tail _ (.tail _ (.tail _ (.tail _ (.tail _ (.head _)))))))))))), mem_slab _ (grp i).val 10 (off13_eq i) (k0_off13_inb i h) y hg hqq⟩
      · exact ⟨_, .tail _ (.tail _ (.tail _ (.tail _ (.head _)))), mem_slab _ (grp i).val 11 (off21_eq i) (k0_off21_inb i h) y hg hqq⟩
      · exact ⟨_, .tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))), mem_slab _ (grp i).val 12 (off6_eq i) (k0_off6_inb i h) y hg hqq⟩
      · exact ⟨_, .tail _ (.tail _ (.tail _ (.tail _ (.tail _ (.tail _ (.tail _ (.tail _ (.tail _ (.tail _ (.tail _ (.head _))))))))))), mem_slab _ (grp i).val 13 (off14_eq i) (k0_off14_inb i h) y hg hqq⟩
      · exact ⟨_, .tail _ (.tail _ (.tail _ (.head _))), mem_slab _ (grp i).val 14 (off22_eq i) (k0_off22_inb i h) y hg hqq⟩
      · exact ⟨_, .tail _ (.tail _ (.tail _ (.tail _ (.tail _ (.tail _ (.tail _ (.tail _ (.tail _ (.tail _ (.tail _ (.tail _ (.tail _ (.tail _ (.tail _ (.tail _ (.tail _ (.tail _ (.head _)))))))))))))))))), mem_slab _ (grp i).val 15 (off7_eq i) (k0_off7_inb i h) y hg hqq⟩
      · exact ⟨_, .tail _ (.tail _ (.tail _ (.tail _ (.tail _ (.tail _ (.tail _ (.tail _ (.tail _ (.tail _ (.head _)))))))))), mem_slab _ (grp i).val 16 (off15_eq i) (k0_off15_inb i h) y hg hqq⟩
      · exact ⟨_, .tail _ (.tail _ (.head _)), mem_slab _ (grp i).val 17 (off23_eq i) (k0_off23_inb i h) y hg hqq⟩
      · exact ⟨_, .tail _ (.tail _ (.tail _ (.tail _ (.tail _ (.tail _ (.tail _ (.tail _ (.tail _ (.tail _ (.tail _ (.tail _ (.tail _ (.tail _ (.tail _ (.tail _ (.tail _ (.head _))))))))))))))))), mem_slab _ (grp i).val 18 (off8_eq i) (k0_off8_inb i h) y hg hqq⟩
      · exact ⟨_, .tail _ (.tail _ (.tail _ (.tail _ (.tail _ (.tail _ (.tail _ (.tail _ (.tail _ (.head _))))))))), mem_slab _ (grp i).val 19 (off16_eq i) (k0_off16_inb i h) y hg hqq⟩
      · exact ⟨_, .tail _ (.head _), mem_slab _ (grp i).val 20 (off24_eq i) (k0_off24_inb i h) y hg hqq⟩
      · exact ⟨_, .tail _ (.tail _ (.tail _ (.tail _ (.tail _ (.tail _ (.tail _ (.tail _ (.tail _ (.tail _ (.tail _ (.tail _ (.tail _ (.tail _ (.tail _ (.tail _ (.head _)))))))))))))))), mem_slab _ (grp i).val 21 (off9_eq i) (k0_off9_inb i h) y hg hqq⟩
      · exact ⟨_, .tail _ (.tail _ (.tail _ (.tail _ (.tail _ (.tail _ (.tail _ (.tail _ (.head _)))))))), mem_slab _ (grp i).val 22 (off17_eq i) (k0_off17_inb i h) y hg hqq⟩
      · exact ⟨_, .head _, mem_slab _ (grp i).val 23 (off25_eq i) (k0_off25_inb i h) y hg hqq⟩
  · rw [read_writes_off]
    · unfold dUpd; rw [if_neg h0]
    · have hg : (y 0).val ≠ (grp i).val := h0
      unfold dPieces
      simp only [List.forall_mem_cons]
      refine ⟨not_mem_slab _ (grp i).val 368 (off25_eq i) (k0_off25_inb i h) y hg,
   not_mem_slab _ (grp i).val 320 (off24_eq i) (k0_off24_inb i h) y hg,
   not_mem_slab _ (grp i).val 272 (off23_eq i) (k0_off23_inb i h) y hg,
   not_mem_slab _ (grp i).val 224 (off22_eq i) (k0_off22_inb i h) y hg,
   not_mem_slab _ (grp i).val 176 (off21_eq i) (k0_off21_inb i h) y hg,
   not_mem_slab _ (grp i).val 128 (off20_eq i) (k0_off20_inb i h) y hg,
   not_mem_slab _ (grp i).val 80 (off19_eq i) (k0_off19_inb i h) y hg,
   not_mem_slab _ (grp i).val 32 (off18_eq i) (k0_off18_inb i h) y hg,
   not_mem_slab _ (grp i).val 352 (off17_eq i) (k0_off17_inb i h) y hg,
   not_mem_slab _ (grp i).val 304 (off16_eq i) (k0_off16_inb i h) y hg,
   not_mem_slab _ (grp i).val 256 (off15_eq i) (k0_off15_inb i h) y hg,
   not_mem_slab _ (grp i).val 208 (off14_eq i) (k0_off14_inb i h) y hg,
   not_mem_slab _ (grp i).val 160 (off13_eq i) (k0_off13_inb i h) y hg,
   not_mem_slab _ (grp i).val 112 (off12_eq i) (k0_off12_inb i h) y hg,
   not_mem_slab _ (grp i).val 64 (off11_eq i) (k0_off11_inb i h) y hg,
   not_mem_slab _ (grp i).val 16 (off10_eq i) (k0_off10_inb i h) y hg,
   not_mem_slab _ (grp i).val 336 (off9_eq i) (k0_off9_inb i h) y hg,
   not_mem_slab _ (grp i).val 288 (off8_eq i) (k0_off8_inb i h) y hg,
   not_mem_slab _ (grp i).val 240 (off7_eq i) (k0_off7_inb i h) y hg,
   not_mem_slab _ (grp i).val 192 (off6_eq i) (k0_off6_inb i h) y hg,
   not_mem_slab _ (grp i).val 144 (off5_eq i) (k0_off5_inb i h) y hg,
   not_mem_slab _ (grp i).val 96 (off4_eq i) (k0_off4_inb i h) y hg,
   not_mem_slab _ (grp i).val 48 (off3_eq i) (k0_off3_inb i h) y hg,
   not_mem_slab _ (grp i).val 0 (off2_eq i) (k0_off2_inb i h) y hg, ?_⟩
      simp

theorem ds_writes_eq (v : View sig κ sp S8x384x1280 .bf16) (f : v.ty.Contents (Elt Ideal)) (i : grid0.Coords) (h : k0_cond1 i = 1#1)
    (ws : Vec Ideal S1x1280 .f32) (X : Vec Ideal S3x8x16x1280 .bf16) :
    v.read (Elt Ideal) (v.writes (Elt Ideal) f (dsPieces i h ws X (invOf X 0) (invOf X 1) (invOf X 2))) = dsUpd (grp i) X ws (v.read (Elt Ideal) f) := by
  funext y
  by_cases h0 : (y 0).val = (grp i).val
  · apply read_writes_target
    · unfold dsPieces
      simp only [List.forall_mem_cons]
      refine ⟨ds_piece X ws (grp i) (v.read (Elt Ideal) f) 2 7 (by decide) (by decide) _ (off25_eq i) _ _,
   ds_piece X ws (grp i) (v.read (Elt Ideal) f) 2 6 (by decide) (by decide) _ (off24_eq i) _ _,
   ds_piece X ws (grp i) (v.read (Elt Ideal) f) 2 5 (by decide) (by decide) _ (off23_eq i) _ _,
   ds_piece X ws (grp i) (v.read (Elt Ideal) f) 2 4 (by decide) (by decide) _ (off22_eq i) _ _,
   ds_piece X ws (grp i) (v.read (Elt Ideal) f) 2 3 (by decide) (by decide) _ (off21_eq i) _ _,
   ds_piece X ws (grp i) (v.read (Elt Ideal) f) 2 2 (by decide) (by decide) _ (off20_eq i) _ _,
   ds_piece X ws (grp i) (v.read (Elt Ideal) f) 2 1 (by decide) (by decide) _ (off19_eq i) _ _,
   ds_piece X ws (grp i) (v.read (Elt Ideal) f) 2 0 (by decide) (by decide) _ (off18_eq i) _ _,
   ds_piece X ws (grp i) (v.read (Elt Ideal) f) 1 7 (by decide) (by decide) _ (off17_eq i) _ _,
   ds_piece X ws (grp i) (v.read (Elt Ideal) f) 1 6 (by decide) (by decide) _ (off16_eq i) _ _,
   ds_piece X ws (grp i) (v.read (Elt Ideal) f) 1 5 (by decide) (by decide) _ (off15_eq i) _ _,
   ds_piece X ws (grp i) (v.read (Elt Ideal) f) 1 4 (by decide) (by decide) _ (off14_eq i) _ _,
   ds_piece X ws (grp i) (v.read (Elt Ideal) f) 1 3 (by decide) (by decide) _ (off13_eq i) _ _,
   ds_piece X ws (grp i) (v.read (Elt Ideal) f) 1 2 (by decide) (by decide) _ (off12_eq i) _ _,
   ds_piece X ws (grp i) (v.read (Elt Ideal) f) 1 1 (by decide) (by decide) _ (off11_eq i) _ _,
   ds_piece X ws (grp i) (v.read (Elt Ideal) f) 1 0 (by decide) (by decide) _ (off10_eq i) _ _,
   ds_piece X ws (grp i) (v.read (Elt Ideal) f) 0 7 (by decide) (by decide) _ (off9_eq i) _ _,
   ds_piece X ws (grp i) (v.read (Elt Ideal) f) 0 6 (by decide) (by decide) _ (off8_eq i) _ _,
   ds_piece X ws (grp i) (v.read (Elt Ideal) f) 0 5 (by decide) (by decide) _ (off7_eq i) _ _,
   ds_piece X ws (grp i) (v.read (Elt Ideal) f) 0 4 (by decide) (by decide) _ (off6_eq i) _ _,
   ds_piece X ws (grp i) (v.read (Elt Ideal) f) 0 3 (by decide) (by decide) _ (off5_eq i) _ _,
   ds_piece X ws (grp i) (v.read (Elt Ideal) f) 0 2 (by decide) (by decide) _ (off4_eq i) _ _,
   ds_piece X ws (grp i) (v.read (Elt Ideal) f) 0 1 (by decide) (by decide) _ (off3_eq i) _ _,
   ds_piece X ws (grp i) (v.read (Elt Ideal) f) 0 0 (by decide) (by decide) _ (off2_eq i) _ _, ?_⟩
      simp
    · have hg : (y 0).val = (grp i).val := h0
      have hq : (y 1).val / 16 < 24 := by have : (y 1).val < 384 := (y 1).isLt; omega
      generalize hqq : (y 1).val / 16 = q at hq
      unfold dsPieces
      interval_cases q
      · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))), mem_slab _ (grp i).val 0 (off2_eq i) (k0_off2_inb i h) y hg hqq⟩
      · exact ⟨_, .tail _ (.tail _ (.tail _ (.tail _ (.tail _ (.tail _ (.tail _ (.tail _ (.tail _ (.tail _ (.tail _ (.tail _ (.tail _ (.tail _ (.tail _ (.head _))))))))))))))), mem_slab _ (grp i).val 1 (off10_eq i) (k0_off10_inb i h) y hg hqq⟩
      · exact ⟨_, .tail _ (.tail _ (.tail _ (.tail _ (.tail _ (.tail _ (.tail _ (.head _))))))), mem_slab _ (grp i).val 2 (off18_eq i) (k0_off18_inb i h) y hg hqq⟩
      · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))), mem_slab _ (grp i).val 3 (off3_eq i) (k0_off3_inb i h) y hg hqq⟩
      · exact ⟨_, .tail _ (.tail _ (.tail _ (.tail _ (.tail _ (.tail _ (.tail _ (.tail _ (.tail _ (.tail _ (.tail _ (.tail _ (.tail _ (.tail _ (.head _)))))))))))))), mem_slab _ (grp i).val 4 (off11_eq i) (k0_off11_inb i h) y hg hqq⟩
      · exact ⟨_, .tail _ (.tail _ (.tail _ (.tail _ (.tail _ (.tail _ (.head _)))))), mem_slab _ (grp i).val 5 (off19_eq i) (k0_off19_inb i h) y hg hqq⟩
      · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))), mem_slab _ (grp i).val 6 (off4_eq i) (k0_off4_inb i h) y hg hqq⟩
      · exact ⟨_, .tail _ (.tail _ (.tail _ (.tail _ (.tail _ (.tail _ (.tail _ (.tail _ (.tail _ (.tail _ (.tail _ (.tail _ (.tail _ (.head _))))))))))))), mem_slab _ (grp i).val 7 (off12_eq i) (k0_off12_inb i h) y hg hqq⟩
      · exact ⟨_, .tail _ (.tail _ (.tail _ (.tail _ (.tail _ (.head _))))), mem_slab _ (grp i).val 8 (off20_eq i) (k0_off20_inb i h) y hg hqq⟩
      · exact ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))), mem_slab _ (grp i).val 9 (off5_eq i) (k0_off5_inb i h) y hg hqq⟩
      · exact ⟨_, .tail _ (.tail _ (.tail _ (.tail _ (.tail _ (.tail _ (.tail _ (.tail _ (.tail _ (.tail _ (.tail _ (.tail _ (.head _)))))))))))), mem_slab _ (grp i).val 10 (off13_eq i) (k0_off13_inb i h) y hg hqq⟩
      · exact ⟨_, .tail _ (.tail _ (.tail _ (.tail _ (.head _)))), mem_slab _ (grp i).val 11 (off21_eq i) (k0_off21_inb i h) y hg hqq⟩
      · exact ⟨_, .tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))), mem_slab _ (grp i).val 12 (off6_eq i) (k0_off6_inb i h) y hg hqq⟩
      · exact ⟨_, .tail _ (.tail _ (.tail _ (.tail _ (.tail _ (.tail _ (.tail _ (.tail _ (.tail _ (.tail _ (.tail _ (.head _))))))))))), mem_slab _ (grp i).val 13 (off14_eq i) (k0_off14_inb i h) y hg hqq⟩
      · exact ⟨_, .tail _ (.tail _ (.tail _ (.head _))), mem_slab _ (grp i).val 14 (off22_eq i) (k0_off22_inb i h) y hg hqq⟩
      · exact ⟨_, .tail _ (.tail _ (.tail _ (.tail _ (.tail _ (.tail _ (.tail _ (.tail _ (.tail _ (.tail _ (.tail _ (.tail _ (.tail _ (.tail _ (.tail _ (.tail _ (.tail _ (.tail _ (.head _)))))))))))))))))), mem_slab _ (grp i).val 15 (off7_eq i) (k0_off7_inb i h) y hg hqq⟩
      · exact ⟨_, .tail _ (.tail _ (.tail _ (.tail _ (.tail _ (.tail _ (.tail _ (.tail _ (.tail _ (.tail _ (.head _)))))))))), mem_slab _ (grp i).val 16 (off15_eq i) (k0_off15_inb i h) y hg hqq⟩
      · exact ⟨_, .tail _ (.tail _ (.head _)), mem_slab _ (grp i).val 17 (off23_eq i) (k0_off23_inb i h) y hg hqq⟩
      · exact ⟨_, .tail _ (.tail _ (.tail _ (.tail _ (.tail _ (.tail _ (.tail _ (.tail _ (.tail _ (.tail _ (.tail _ (.tail _ (.tail _ (.tail _ (.tail _ (.tail _ (.tail _ (.head _))))))))))))))))), mem_slab _ (grp i).val 18 (off8_eq i) (k0_off8_inb i h) y hg hqq⟩
      · exact ⟨_, .tail _ (.tail _ (.tail _ (.tail _ (.tail _ (.tail _ (.tail _ (.tail _ (.tail _ (.head _))))))))), mem_slab _ (grp i).val 19 (off16_eq i) (k0_off16_inb i h) y hg hqq⟩
      · exact ⟨_, .tail _ (.head _), mem_slab _ (grp i).val 20 (off24_eq i) (k0_off24_inb i h) y hg hqq⟩
      · exact ⟨_, .tail _ (.tail _ (.tail _ (.tail _ (.tail _ (.tail _ (.tail _ (.tail _ (.tail _ (.tail _ (.tail _ (.tail _ (.tail _ (.tail _ (.tail _ (.tail _ (.head _)))))))))))))))), mem_slab _ (grp i).val 21 (off9_eq i) (k0_off9_inb i h) y hg hqq⟩
      · exact ⟨_, .tail _ (.tail _ (.tail _ (.tail _ (.tail _ (.tail _ (.tail _ (.tail _ (.head _)))))))), mem_slab _ (grp i).val 22 (off17_eq i) (k0_off17_inb i h) y hg hqq⟩
      · exact ⟨_, .head _, mem_slab _ (grp i).val 23 (off25_eq i) (k0_off25_inb i h) y hg hqq⟩
  · rw [read_writes_off]
    · unfold dsUpd; rw [if_neg h0]
    · have hg : (y 0).val ≠ (grp i).val := h0
      unfold dsPieces
      simp only [List.forall_mem_cons]
      refine ⟨not_mem_slab _ (grp i).val 368 (off25_eq i) (k0_off25_inb i h) y hg,
   not_mem_slab _ (grp i).val 320 (off24_eq i) (k0_off24_inb i h) y hg,
   not_mem_slab _ (grp i).val 272 (off23_eq i) (k0_off23_inb i h) y hg,
   not_mem_slab _ (grp i).val 224 (off22_eq i) (k0_off22_inb i h) y hg,
   not_mem_slab _ (grp i).val 176 (off21_eq i) (k0_off21_inb i h) y hg,
   not_mem_slab _ (grp i).val 128 (off20_eq i) (k0_off20_inb i h) y hg,
   not_mem_slab _ (grp i).val 80 (off19_eq i) (k0_off19_inb i h) y hg,
   not_mem_slab _ (grp i).val 32 (off18_eq i) (k0_off18_inb i h) y hg,
   not_mem_slab _ (grp i).val 352 (off17_eq i) (k0_off17_inb i h) y hg,
   not_mem_slab _ (grp i).val 304 (off16_eq i) (k0_off16_inb i h) y hg,
   not_mem_slab _ (grp i).val 256 (off15_eq i) (k0_off15_inb i h) y hg,
   not_mem_slab _ (grp i).val 208 (off14_eq i) (k0_off14_inb i h) y hg,
   not_mem_slab _ (grp i).val 160 (off13_eq i) (k0_off13_inb i h) y hg,
   not_mem_slab _ (grp i).val 112 (off12_eq i) (k0_off12_inb i h) y hg,
   not_mem_slab _ (grp i).val 64 (off11_eq i) (k0_off11_inb i h) y hg,
   not_mem_slab _ (grp i).val 16 (off10_eq i) (k0_off10_inb i h) y hg,
   not_mem_slab _ (grp i).val 336 (off9_eq i) (k0_off9_inb i h) y hg,
   not_mem_slab _ (grp i).val 288 (off8_eq i) (k0_off8_inb i h) y hg,
   not_mem_slab _ (grp i).val 240 (off7_eq i) (k0_off7_inb i h) y hg,
   not_mem_slab _ (grp i).val 192 (off6_eq i) (k0_off6_inb i h) y hg,
   not_mem_slab _ (grp i).val 144 (off5_eq i) (k0_off5_inb i h) y hg,
   not_mem_slab _ (grp i).val 96 (off4_eq i) (k0_off4_inb i h) y hg,
   not_mem_slab _ (grp i).val 48 (off3_eq i) (k0_off3_inb i h) y hg,
   not_mem_slab _ (grp i).val 0 (off2_eq i) (k0_off2_inb i h) y hg, ?_⟩
      simp

theorem scale_writes_eq (v : View sig κ sp S24 .f32) (f : v.ty.Contents (Elt Ideal)) (i : grid0.Coords) (h : k0_cond1 i = 1#1)
    (X : Vec Ideal S3x8x16x1280 .bf16) :
    v.read (Elt Ideal) (v.writes (Elt Ideal) f (scalePieces i h (scaleOf X 0) (scaleOf X 1) (scaleOf X 2))) = scaleUpd (grp i) X (v.read (Elt Ideal) f) := by
  funext y
  unfold scalePieces
  have o0 : k0_off1 i 0#32 0 = 3 * (grp i).val + 0 := congrFun (off1_eq i 0) 0
  have o1 : k0_off1 i 1#32 0 = 3 * (grp i).val + 1 := congrFun (off1_eq i 1) 0
  have o2 : k0_off1 i 2#32 0 = 3 * (grp i).val + 2 := congrFun (off1_eq i 2) 0
  refine (View.read_writes_cons_cell v f _ _ _ y).trans ?_
  rw [o2]
  unfold scaleUpd
  by_cases h2 : (y 0).val = 3 * (grp i).val + 2
  · rw [if_pos h2, if_pos (by omega)]
    exact congrArg (scaleOf X) (Fin.ext (show 2 = (y 0).val % 3 by omega))
  rw [if_neg h2]
  refine (View.read_writes_cons_cell v f _ _ _ y).trans ?_
  rw [o1]
  by_cases h1 : (y 0).val = 3 * (grp i).val + 1
  · rw [if_pos h1, if_pos (by omega)]
    exact congrArg (scaleOf X) (Fin.ext (show 1 = (y 0).val % 3 by omega))
  rw [if_neg h1]
  refine (View.read_writes_cons_cell v f _ _ _ y).trans ?_
  rw [o0]
  by_cases h0 : (y 0).val = 3 * (grp i).val + 0
  · rw [if_pos h0, if_pos (by omega)]
    exact congrArg (scaleOf X) (Fin.ext (show 0 = (y 0).val % 3 by omega))
  rw [if_neg h0, if_neg (by omega)]
  rfl

end Cert.KernelIdeal.Run

end
-- ==== Proof.RunQuant.lean ====
module

public import proofs.«01_k».proof.Proof.QuantSpec

@[expose] public section

-- membership in a rectangle of production extents (`View.cover_of_tiled`): the elaborator's structural look
-- recurses once per coordinate of the long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

theorem ld_ws (ws : Vec Ideal S1x1280 .f32) : View.ld ws (Rect.unit (s := S1x1280) ![0, 0] S1x1280.size inb_S1x1280_S1x1280_0_0) = ws := by
  funext j
  show ws _ = ws _
  congr 1
  funext t
  refine Fin.ext ?_
  match t with
  | ⟨0, _⟩ => show 0 + 1 * (j 0).val = (j 0).val; omega
  | ⟨1, _⟩ => show 0 + 1 * (j 1).val = (j 1).val; omega

set_option maxHeartbeats 4000000 in
/-- A group's quantisation: from the staged group and the channel scales, the codes, the three scale words and the group's
    rows of the two scratch buffers end at their closed forms; the other words and rows are as they were. -/
theorem run_quant (c : Dev nD) (i : grid0.Coords) (arg2 : Memref sig .tc .vmem S3x8x16x1280 .bf16) (harg2 : arg2.IsWhole) (arg3 : Memref sig .tc .vmem S3x3x512x1280 .fp8e4m3) (harg3 : arg3.IsWhole) (arg4 : Memref sig .tc .vmem S1x1280 .f32) (harg4 : arg4.IsWhole) (arg5 : Memref sig .tc .vmem S3x16x32x512 .bf16) (harg5 : arg5.IsWhole) (arg6 : Memref sig .tc .vmem S3x8x16x1280 .fp8e5m2) (harg6 : arg6.IsWhole) (arg7 : Memref sig .tc .smem S24 .f32) (harg7 : arg7.IsWhole) (arg8 : Memref sig .tc .vmem S8x384x1280 .bf16) (harg8 : arg8.IsWhole) (arg9 : Memref sig .tc .vmem S8x384x1280 .bf16) (harg9 : arg9.IsWhole) (hc : k0_cond1 i = 1#1) (x0 : Vec Ideal S3x8x16x1280 .bf16) (x2 : Vec Ideal S1x1280 .f32) (c5 : Vec Ideal S24 .f32) (D DS : Vec Ideal S8x384x1280 .bf16) :
    ∀ (E : Set ℕ) (K : PUnit → sProp 𝕄),
      iprop(owns (c : Thread nD τ) arg2 fullShare x0 ∗ owns (c : Thread nD τ) arg4 fullShare x2 ∗ (∃ d, owns (c : Thread nD τ) arg6 fullShare d) ∗ owns (c : Thread nD τ) arg7 fullShare c5
          ∗ owns (c : Thread nD τ) arg8 fullShare D ∗ owns (c : Thread nD τ) arg9 fullShare DS
          ∗ (iprop(owns (c : Thread nD τ) arg2 fullShare x0 ∗ owns (c : Thread nD τ) arg4 fullShare x2 ∗ owns (c : Thread nD τ) arg6 fullShare (codesBlk x0) ∗ owns (c : Thread nD τ) arg7 fullShare (scaleUpd (grp i) x0 c5)
            ∗ owns (c : Thread nD τ) arg8 fullShare (dUpd (grp i) x0 x2 D) ∗ owns (c : Thread nD τ) arg9 fullShare (dsUpd (grp i) x0 x2 DS)) -∗ K ⟨⟩))
        ⊢ wp frame (wpE (defs₀ (F := Ideal)) Variants.none c none) E  (quantProg i arg2 harg2 arg3 harg3 arg4 harg4 arg5 harg5 arg6 harg6 arg7 harg7 arg8 harg8 arg9 harg9 hc) K := by
    intro E K
    unfold quantProg
    simp only [k0_part24_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton]
    unfold owns
    iintro ⟨⟨%f0, %hf0, H0⟩, ⟨%f2, %hf2, H2⟩, ⟨%d4, %f4, -, H4⟩, ⟨%f5, %hf5, H5⟩, ⟨%fs0, %hs0, HS0⟩, ⟨%fs1, %hs1, HS1⟩, Hk⟩
    obtain rfl := harg2.eq_unread hf0; obtain rfl := harg4.eq_unread hf2; obtain rfl := harg7.eq_unread hf5; obtain rfl := harg8.eq_unread hs0; obtain rfl := harg9.eq_unread hs1
    sl_exec
    sl_step
    have i0 : k0_pay6 (F := Ideal) (ldImg (arg2.view.read (Elt Ideal) (harg2.unread x0)) 0 inb_S3x8x16x1280_S1x8x16x1280_0_0_0_0) = invOf (arg2.view.read (Elt Ideal) (harg2.unread x0)) 0 := congrArg k0_pay6 (ldImg_eq _ 0 (by decide) _)
    have i1 : k0_pay6 (F := Ideal) (ldImg (arg2.view.read (Elt Ideal) (harg2.unread x0)) 1 inb_S3x8x16x1280_S1x8x16x1280_1_0_0_0) = invOf (arg2.view.read (Elt Ideal) (harg2.unread x0)) 1 := congrArg k0_pay6 (ldImg_eq _ 1 (by decide) _)
    have i2 : k0_pay6 (F := Ideal) (ldImg (arg2.view.read (Elt Ideal) (harg2.unread x0)) 2 inb_S3x8x16x1280_S1x8x16x1280_2_0_0_0) = invOf (arg2.view.read (Elt Ideal) (harg2.unread x0)) 2 := congrArg k0_pay6 (ldImg_eq _ 2 (by decide) _)
    have s0 : k0_pay5 (F := Ideal) (ldImg (arg2.view.read (Elt Ideal) (harg2.unread x0)) 0 inb_S3x8x16x1280_S1x8x16x1280_0_0_0_0) = scaleOf (arg2.view.read (Elt Ideal) (harg2.unread x0)) 0 := congrArg k0_pay5 (ldImg_eq _ 0 (by decide) _)
    have s1 : k0_pay5 (F := Ideal) (ldImg (arg2.view.read (Elt Ideal) (harg2.unread x0)) 1 inb_S3x8x16x1280_S1x8x16x1280_1_0_0_0) = scaleOf (arg2.view.read (Elt Ideal) (harg2.unread x0)) 1 := congrArg k0_pay5 (ldImg_eq _ 1 (by decide) _)
    have s2 : k0_pay5 (F := Ideal) (ldImg (arg2.view.read (Elt Ideal) (harg2.unread x0)) 2 inb_S3x8x16x1280_S1x8x16x1280_2_0_0_0) = scaleOf (arg2.view.read (Elt Ideal) (harg2.unread x0)) 2 := congrArg k0_pay5 (ldImg_eq _ 2 (by decide) _)
    have e4 := code_writes_eq arg6.view f4 (arg2.view.read (Elt Ideal) (harg2.unread x0))
    have e5 := scale_writes_eq arg7.view (harg7.unread c5) i hc (arg2.view.read (Elt Ideal) (harg2.unread x0))
    have e8 := d_writes_eq arg8.view (harg8.unread D) i hc (View.ld (arg4.view.read (Elt Ideal) (harg4.unread x2)) (Rect.unit (s := S1x1280) ![0, 0] S1x1280.size inb_S1x1280_S1x1280_0_0)) (arg2.view.read (Elt Ideal) (harg2.unread x0))
    have e9 := ds_writes_eq arg9.view (harg9.unread DS) i hc (View.ld (arg4.view.read (Elt Ideal) (harg4.unread x2)) (Rect.unit (s := S1x1280) ![0, 0] S1x1280.size inb_S1x1280_S1x1280_0_0)) (arg2.view.read (Elt Ideal) (harg2.unread x0))
    rw [← i0, ← i1, ← i2] at e4 e8 e9
    rw [← s0, ← s1, ← s2] at e5
    iapply Hk
    isplitl [H0]
    · iexists _; isplitr; · ipureintro; exact harg2.read_unread _
      iexact H0
    isplitl [H2]
    · iexists _; isplitr; · ipureintro; exact harg4.read_unread _
      iexact H2
    isplitl [H4]
    · iexists _; isplitr; swap; · iexact H4
      ipureintro
      refine Eq.trans e4 ?_
      rw [harg2.read_unread]
    isplitl [H5]
    · iexists _; isplitr; swap; · iexact H5
      ipureintro
      refine Eq.trans e5 ?_
      rw [harg2.read_unread, harg7.read_unread]
    isplitl [HS0]
    · iexists _; isplitr; swap; · iexact HS0
      ipureintro
      refine Eq.trans e8 ?_
      rw [harg2.read_unread, harg8.read_unread, harg4.read_unread, ld_ws]
    iexists _; isplitr; swap; · iexact HS1
    ipureintro
    refine Eq.trans e9 ?_
    rw [harg2.read_unread, harg9.read_unread, harg4.read_unread, ld_ws]

end Cert.KernelIdeal.Run

end
-- ==== Proof.RunMain.lean ====
module

public import proofs.«01_k».proof.Proof.QuantSpec

@[expose] public section

-- membership in a rectangle of production extents (`View.cover_of_tiled`): the elaborator's structural look
-- recurses once per coordinate of the long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

theorem off26_eq (i : grid0.Coords) : k0_off26 i = ![(grp i).val, 0, 0] := by
  have h : (i 1).val < 8 := (grp i).isLt
  unfold k0_off26 grp
  simp only [Scalar.indexCast, BitVec.toNat_ofNat]
  rw [Nat.mod_eq_of_lt (by omega)]

theorem off27_eq (i : grid0.Coords) (r : Fin 3) : k0_off27 i (BitVec.ofNat 32 r.val) = ![3 * (grp i).val + r.val] := by
  have h : (i 1).val < 8 := (grp i).isLt
  have hr := r.isLt
  unfold k0_off27 grp
  simp only [Scalar.indexCast, Scalar.muli, Scalar.addi, IntOp.addi, IntOp.muli, BitVec.toNat_ofNat, BitVec.toNat_add, BitVec.toNat_mul]
  congr 1
  omega

/-- The gradient block of one point, of the scratch buffers' contents, the taps and the scale words. -/
def dxOf (g : Fin 8) (x1 : Vec Ideal S3x3x512x1280 .fp8e4m3) (c5 : Vec Ideal S24 .f32) (D DS : Vec Ideal S8x384x1280 .bf16) :
    Vec Ideal S3x16x32x512 .bf16 :=
  dxBlk (fun r k => D (ix3 g r k)) (fun r k => DS (ix3 g r k)) (fun a b n k => x1 (ix4 a b n k))
    (fun j => c5 (ix1 ⟨3 * g.val + j.val, by have := g.isLt; have := j.isLt; omega⟩))

theorem rowsOf_readAt (arg8 : Memref sig .tc .vmem S8x384x1280 .bf16) (harg8 : arg8.IsWhole) (i : grid0.Coords) (D : Vec Ideal S8x384x1280 .bf16) :
    rowsOf (View.readAt (Elt Ideal) arg8.view (Rect.unit (s := S8x384x1280) (k0_off26 i) S1x384x1280.size (k0_off26_inb i)).toLoadRect (harg8.unread D)) = fun r k => D (ix3 (grp i) r k) := by
  funext r k
  unfold rowsOf
  rw [View.readAt_eq_ld, harg8.read_unread]
  show D _ = D _
  congr 1
  funext a
  refine Fin.ext ?_
  have e := congrFun (off26_eq i) a
  match a with
  | ⟨0, _⟩ => show k0_off26 i 0 + 1 * 0 = (grp i).val; rw [off26_eq]; rfl
  | ⟨1, _⟩ => show k0_off26 i 1 + 1 * r.val = r.val; rw [off26_eq]; show 0 + 1 * r.val = r.val; omega
  | ⟨2, _⟩ => show k0_off26 i 2 + 1 * k.val = k.val; rw [off26_eq]; show 0 + 1 * k.val = k.val; omega

theorem tapOf_readAt (arg3 : Memref sig .tc .vmem S3x3x512x1280 .fp8e4m3) (harg3 : arg3.IsWhole) (x1 : Vec Ideal S3x3x512x1280 .fp8e4m3) (a b : Fin 3)
    (inb : ∀ t, (![a.val, b.val, 0, 0] : Fin 4 → ℕ) t + S1x1x512x1280.size t ≤ S3x3x512x1280.size t) :
    tapOf (View.readAt (Elt Ideal) arg3.view (Rect.unit (s := S3x3x512x1280) ![a.val, b.val, 0, 0] S1x1x512x1280.size inb).toLoadRect (harg3.unread x1))
      = fun n k => x1 (ix4 a b n k) := by
  funext n k
  unfold tapOf
  rw [View.readAt_eq_ld, harg3.read_unread]
  show x1 _ = x1 _
  congr 1
  funext t
  refine Fin.ext ?_
  match t with
  | ⟨0, _⟩ => show a.val + 1 * 0 = a.val; omega
  | ⟨1, _⟩ => show b.val + 1 * 0 = b.val; omega
  | ⟨2, _⟩ => show 0 + 1 * n.val = n.val; omega
  | ⟨3, _⟩ => show 0 + 1 * k.val = k.val; omega

theorem scaleOf_readAt (arg7 : Memref sig .tc .smem S24 .f32) (harg7 : arg7.IsWhole) (i : grid0.Coords) (c5 : Vec Ideal S24 .f32) (j : Fin 3)
    (inb : ∀ t, k0_off27 i (BitVec.ofNat 32 j.val) t + S1.size t ≤ S24.size t) (h : 0 < S1.numel) :
    View.readAt (Elt Ideal) arg7.view (Rect.unit (s := S24) (k0_off27 i (BitVec.ofNat 32 j.val)) S1.size inb).toLoadRect (harg7.unread c5) (Shape.Idx.first h)
      = c5 (ix1 ⟨3 * (grp i).val + j.val, by have := (grp i).isLt; have := j.isLt; omega⟩) := by
  rw [View.readAt_eq_ld, harg7.read_unread]
  show c5 _ = c5 _
  congr 1
  funext t
  refine Fin.ext ?_
  match t with
  | ⟨0, _⟩ =>
    show k0_off27 i (BitVec.ofNat 32 j.val) 0 + 1 * (Shape.Idx.first h 0).val = 3 * (grp i).val + j.val
    rw [off27_eq]
    have : (Shape.Idx.first h 0).val < 1 := (Shape.Idx.first h 0).isLt
    show 3 * (grp i).val + j.val + 1 * _ = _
    omega

set_option maxHeartbeats 2000000 in
/-- The products' part of a point: from the taps, the scratch buffers and the scale words at known contents, the gradient
    block ends at its closed form and everything else is as it was. -/
theorem run_main (c : Dev nD) (i : grid0.Coords) (arg2 : Memref sig .tc .vmem S3x8x16x1280 .bf16) (harg2 : arg2.IsWhole) (arg3 : Memref sig .tc .vmem S3x3x512x1280 .fp8e4m3) (harg3 : arg3.IsWhole) (arg4 : Memref sig .tc .vmem S1x1280 .f32) (harg4 : arg4.IsWhole) (arg5 : Memref sig .tc .vmem S3x16x32x512 .bf16) (harg5 : arg5.IsWhole) (arg6 : Memref sig .tc .vmem S3x8x16x1280 .fp8e5m2) (harg6 : arg6.IsWhole) (arg7 : Memref sig .tc .smem S24 .f32) (harg7 : arg7.IsWhole) (arg8 : Memref sig .tc .vmem S8x384x1280 .bf16) (harg8 : arg8.IsWhole) (arg9 : Memref sig .tc .vmem S8x384x1280 .bf16) (harg9 : arg9.IsWhole) (x1 : Vec Ideal S3x3x512x1280 .fp8e4m3) (c5 : Vec Ideal S24 .f32) (D DS : Vec Ideal S8x384x1280 .bf16) :
    ∀ (E : Set ℕ) (K : PUnit → sProp 𝕄),
      iprop(owns (c : Thread nD τ) arg3 fullShare x1 ∗ (∃ d, owns (c : Thread nD τ) arg5 fullShare d) ∗ owns (c : Thread nD τ) arg7 fullShare c5
          ∗ owns (c : Thread nD τ) arg8 fullShare D ∗ owns (c : Thread nD τ) arg9 fullShare DS
          ∗ (iprop(owns (c : Thread nD τ) arg3 fullShare x1 ∗ owns (c : Thread nD τ) arg5 fullShare (dxOf (grp i) x1 c5 D DS) ∗ owns (c : Thread nD τ) arg7 fullShare c5
            ∗ owns (c : Thread nD τ) arg8 fullShare D ∗ owns (c : Thread nD τ) arg9 fullShare DS) -∗ K ⟨⟩))
        ⊢ wp frame (wpE (defs₀ (F := Ideal)) Variants.none c none) E  (mainProg i arg2 harg2 arg3 harg3 arg4 harg4 arg5 harg5 arg6 harg6 arg7 harg7 arg8 harg8 arg9 harg9) K := by
    intro E K
    unfold mainProg loadProg
    simp only [k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton]
    unfold owns
    iintro ⟨⟨%f1, %hf1, H1⟩, ⟨%d3, %f3, -, H3⟩, ⟨%f5, %hf5, H5⟩, ⟨%fs0, %hs0, HS0⟩, ⟨%fs1, %hs1, HS1⟩, Hk⟩
    obtain rfl := harg3.eq_unread hf1; obtain rfl := harg7.eq_unread hf5; obtain rfl := harg8.eq_unread hs0; obtain rfl := harg9.eq_unread hs1
    sl_exec
    sl_step
    iapply Hk
    isplitl [H1]
    · iexists _; isplitr; · ipureintro; exact harg3.read_unread _
      iexact H1
    isplitl [H3]
    · iexists _; isplitr; swap; · iexact H3
      ipureintro
      have t00 : tapOf (View.readAt (Elt Ideal) arg3.view (Rect.unit (s := S3x3x512x1280) ![0, 0, 0, 0] S1x1x512x1280.size inb_S3x3x512x1280_S1x1x512x1280_0_0_0_0).toLoadRect (harg3.unread x1)) = fun n k => x1 (ix4 0 0 n k) := tapOf_readAt arg3 harg3 x1 0 0 _
      have t01 : tapOf (View.readAt (Elt Ideal) arg3.view (Rect.unit (s := S3x3x512x1280) ![0, 1, 0, 0] S1x1x512x1280.size inb_S3x3x512x1280_S1x1x512x1280_0_1_0_0).toLoadRect (harg3.unread x1)) = fun n k => x1 (ix4 0 1 n k) := tapOf_readAt arg3 harg3 x1 0 1 _
      have t02 : tapOf (View.readAt (Elt Ideal) arg3.view (Rect.unit (s := S3x3x512x1280) ![0, 2, 0, 0] S1x1x512x1280.size inb_S3x3x512x1280_S1x1x512x1280_0_2_0_0).toLoadRect (harg3.unread x1)) = fun n k => x1 (ix4 0 2 n k) := tapOf_readAt arg3 harg3 x1 0 2 _
      have t10 : tapOf (View.readAt (Elt Ideal) arg3.view (Rect.unit (s := S3x3x512x1280) ![1, 0, 0, 0] S1x1x512x1280.size inb_S3x3x512x1280_S1x1x512x1280_1_0_0_0).toLoadRect (harg3.unread x1)) = fun n k => x1 (ix4 1 0 n k) := tapOf_readAt arg3 harg3 x1 1 0 _
      have t11 : tapOf (View.readAt (Elt Ideal) arg3.view (Rect.unit (s := S3x3x512x1280) ![1, 1, 0, 0] S1x1x512x1280.size inb_S3x3x512x1280_S1x1x512x1280_1_1_0_0).toLoadRect (harg3.unread x1)) = fun n k => x1 (ix4 1 1 n k) := tapOf_readAt arg3 harg3 x1 1 1 _
      have t12 : tapOf (View.readAt (Elt Ideal) arg3.view (Rect.unit (s := S3x3x512x1280) ![1, 2, 0, 0] S1x1x512x1280.size inb_S3x3x512x1280_S1x1x512x1280_1_2_0_0).toLoadRect (harg3.unread x1)) = fun n k => x1 (ix4 1 2 n k) := tapOf_readAt arg3 harg3 x1 1 2 _
      have t20 : tapOf (View.readAt (Elt Ideal) arg3.view (Rect.unit (s := S3x3x512x1280) ![2, 0, 0, 0] S1x1x512x1280.size inb_S3x3x512x1280_S1x1x512x1280_2_0_0_0).toLoadRect (harg3.unread x1)) = fun n k => x1 (ix4 2 0 n k) := tapOf_readAt arg3 harg3 x1 2 0 _
      have t21 : tapOf (View.readAt (Elt Ideal) arg3.view (Rect.unit (s := S3x3x512x1280) ![2, 1, 0, 0] S1x1x512x1280.size inb_S3x3x512x1280_S1x1x512x1280_2_1_0_0).toLoadRect (harg3.unread x1)) = fun n k => x1 (ix4 2 1 n k) := tapOf_readAt arg3 harg3 x1 2 1 _
      have t22 : tapOf (View.readAt (Elt Ideal) arg3.view (Rect.unit (s := S3x3x512x1280) ![2, 2, 0, 0] S1x1x512x1280.size inb_S3x3x512x1280_S1x1x512x1280_2_2_0_0).toLoadRect (harg3.unread x1)) = fun n k => x1 (ix4 2 2 n k) := tapOf_readAt arg3 harg3 x1 2 2 _
      have rD : rowsOf (View.readAt (Elt Ideal) arg8.view (Rect.unit (s := S8x384x1280) (k0_off26 i) S1x384x1280.size (k0_off26_inb i)).toLoadRect (harg8.unread D)) = fun r k => D (ix3 (grp i) r k) := rowsOf_readAt arg8 harg8 i D
      have rS : rowsOf (View.readAt (Elt Ideal) arg9.view (Rect.unit (s := S8x384x1280) (k0_off26 i) S1x384x1280.size (k0_off26_inb i)).toLoadRect (harg9.unread DS)) = fun r k => DS (ix3 (grp i) r k) := rowsOf_readAt arg9 harg9 i DS
      refine dx_writes_eq arg5.view f3 (fun r k => D (ix3 (grp i) r k)) (fun r k => DS (ix3 (grp i) r k)) (fun a b n k => x1 (ix4 a b n k))
        (fun j => View.readAt (Elt Ideal) arg7.view (Rect.unit (s := S24) (k0_off27 i (BitVec.ofNat 32 j.val)) S1.size (k0_off27_inb i j)).toLoadRect (harg7.unread c5) (Shape.Idx.first numel1_S1.symm.le))
        (k0_pay153 (View.readAt (Elt Ideal) arg8.view (Rect.unit (s := S8x384x1280) (k0_off26 i) S1x384x1280.size (k0_off26_inb i)).toLoadRect (harg8.unread D)) (View.readAt (Elt Ideal) arg3.view (Rect.unit (s := S3x3x512x1280) ![1, 1, 0, 0] S1x1x512x1280.size inb_S3x3x512x1280_S1x1x512x1280_1_1_0_0).toLoadRect (harg3.unread x1)))
        (k0_pay154 (View.readAt (Elt Ideal) arg8.view (Rect.unit (s := S8x384x1280) (k0_off26 i) S1x384x1280.size (k0_off26_inb i)).toLoadRect (harg8.unread D)) (View.readAt (Elt Ideal) arg9.view (Rect.unit (s := S8x384x1280) (k0_off26 i) S1x384x1280.size (k0_off26_inb i)).toLoadRect (harg9.unread DS)) (View.readAt (Elt Ideal) arg3.view (Rect.unit (s := S3x3x512x1280) ![1, 2, 0, 0] S1x1x512x1280.size inb_S3x3x512x1280_S1x1x512x1280_1_2_0_0).toLoadRect (harg3.unread x1)) (View.readAt (Elt Ideal) arg3.view (Rect.unit (s := S3x3x512x1280) ![1, 0, 0, 0] S1x1x512x1280.size inb_S3x3x512x1280_S1x1x512x1280_1_0_0_0).toLoadRect (harg3.unread x1)))
        (k0_pay158 k0_pay152 (k0_pay155 (View.readAt (Elt Ideal) arg8.view (Rect.unit (s := S8x384x1280) (k0_off26 i) S1x384x1280.size (k0_off26_inb i)).toLoadRect (harg8.unread D)) (View.readAt (Elt Ideal) arg3.view (Rect.unit (s := S3x3x512x1280) ![2, 1, 0, 0] S1x1x512x1280.size inb_S3x3x512x1280_S1x1x512x1280_2_1_0_0).toLoadRect (harg3.unread x1))) (k0_pay156 (View.readAt (Elt Ideal) arg8.view (Rect.unit (s := S8x384x1280) (k0_off26 i) S1x384x1280.size (k0_off26_inb i)).toLoadRect (harg8.unread D))) (k0_pay157 (View.readAt (Elt Ideal) arg3.view (Rect.unit (s := S3x3x512x1280) ![0, 1, 0, 0] S1x1x512x1280.size inb_S3x3x512x1280_S1x1x512x1280_0_1_0_0).toLoadRect (harg3.unread x1))))
        (k0_pay159 (k0_pay150 (View.readAt (Elt Ideal) arg8.view (Rect.unit (s := S8x384x1280) (k0_off26 i) S1x384x1280.size (k0_off26_inb i)).toLoadRect (harg8.unread D))) (k0_pay151 (View.readAt (Elt Ideal) arg9.view (Rect.unit (s := S8x384x1280) (k0_off26 i) S1x384x1280.size (k0_off26_inb i)).toLoadRect (harg9.unread DS))) k0_pay152 (View.readAt (Elt Ideal) arg3.view (Rect.unit (s := S3x3x512x1280) ![2, 2, 0, 0] S1x1x512x1280.size inb_S3x3x512x1280_S1x1x512x1280_2_2_0_0).toLoadRect (harg3.unread x1)) (View.readAt (Elt Ideal) arg3.view (Rect.unit (s := S3x3x512x1280) ![2, 0, 0, 0] S1x1x512x1280.size inb_S3x3x512x1280_S1x1x512x1280_2_0_0_0).toLoadRect (harg3.unread x1)) (View.readAt (Elt Ideal) arg3.view (Rect.unit (s := S3x3x512x1280) ![0, 2, 0, 0] S1x1x512x1280.size inb_S3x3x512x1280_S1x1x512x1280_0_2_0_0).toLoadRect (harg3.unread x1)) (View.readAt (Elt Ideal) arg3.view (Rect.unit (s := S3x3x512x1280) ![0, 0, 0, 0] S1x1x512x1280.size inb_S3x3x512x1280_S1x1x512x1280_0_0_0_0).toLoadRect (harg3.unread x1)))
        ?_ ?_ ?_ ?_ |>.trans ?_
      · intro r n
        rw [pay153_apply, rD, t11]; rfl
      · intro r n
        rw [pay154_apply, rD, rS, t12, t10]; rfl
      · intro r n
        rw [pay158_apply, rD, t21, t01]; rfl
      · intro r n
        rw [pay159_apply, rD, rS, t22, t20, t02, t00]; rfl
      · unfold dxOf
        congr 1
        funext j
        exact scaleOf_readAt arg7 harg7 i c5 j _ _
    isplitl [H5]
    · iexists _; isplitr; · ipureintro; exact harg7.read_unread _
      iexact H5
    isplitl [HS0]
    · iexists _; isplitr; · ipureintro; exact harg8.read_unread _
      iexact HS0
    iexists _; isplitr; · ipureintro; exact harg9.read_unread _
    iexact HS1

end Cert.KernelIdeal.Run

end
-- ==== Proof.Data.lean ====
/- The pipeline's proof data at the ideal values: what the kernel computes from its staged blocks, what it leaves in each output window and in its scratch buffers, and what it finds there again. -/
module

public import proofs.«01_k».proof.Proof.RunQuant
public import proofs.«01_k».proof.Proof.RunMain
public import Idealize.ShloMosaic.Lib.Pipeline.DatRel

@[expose] public section

-- membership in a rectangle of production extents (`View.cover_of_tiled`): the elaborator's structural look
-- recurses once per coordinate of the long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## What the kernel computes, from the staged blocks -/

/-- The point that quantises group `g`. -/
def pt (g : Fin 8) : Fin cfg0.N := ⟨g.val, lt_of_lt_of_eq (Nat.lt_of_lt_of_le g.isLt (by decide)) (show (40 : ℕ) = cfg0.N from N_0.symm)⟩
/-- The images of group `g` and the per-channel factors. -/
def Xg (c : Dev nD) (g : Fin 8) : Vec Ideal S3x8x16x1280 .bf16 := iblk m c 0 (pt g)
def Wg (c : Dev nD) : Vec Ideal S1x1280 .f32 := iblk m c 2 (pt 0)
/-- The taps staged at point `t`. -/
def Tg (c : Dev nD) (t : Fin cfg0.N) : Vec Ideal S3x3x512x1280 .fp8e4m3 := iblk m c 1 t
/-- The two scratch buffers and the scale words when every group is quantised. -/
def dT (c : Dev nD) : Vec Ideal S8x384x1280 .bf16 := fun j => dRow (Xg m c (j 0)) (Wg m c) (j 1) (j 2)
def dsT (c : Dev nD) : Vec Ideal S8x384x1280 .bf16 := fun j => dsRow (Xg m c (j 0)) (Wg m c) (j 1) (j 2)
def scT (c : Dev nD) : Vec Ideal S24 .f32 := fun j =>
  scaleOf (Xg m c ⟨(j 0).val / 3, by have h : (j 0).val < 24 := (j 0).isLt; omega⟩) ⟨(j 0).val % 3, by omega⟩
/-- The group whose codes are staged at a point, and the group whose products are. -/
def gq (n : ℕ) : Fin 8 := ⟨min n 7, by omega⟩
def gm (n : ℕ) : Fin 8 := ⟨n % 8, by omega⟩

/-- The scratch buffers before point `n`: the slabs of the groups quantised so far hold their rows. -/
def Filled (c : Dev nD) (n : ℕ) (D DS : Vec Ideal S8x384x1280 .bf16) : Prop :=
  ∀ j : S8x384x1280.Idx, (j 0).val < n → D j = dT m c j ∧ DS j = dsT m c j

/-- The scale words after point `n`. -/
def Scaled (c : Dev nD) (n : ℕ) (c5 : Vec Ideal S24 .f32) : Prop :=
  ∀ j : S24.Idx, (j 0).val / 3 < n → c5 j = scT m c j

/-! ## The pipeline's proof data -/

/-- The output windows, held to a relation. -/
def marks0 : Fin 6 → Bool := fun w => w.val == 3 || w.val == 4 || w.val == 5

/-- What the body leaves in each output window. -/
def Rl (c : Dev nD) : (w : Fin cfg0.W) → Fin cfg0.N → ((cfg0.win w).block.Idx → Elt Ideal (cfg0.win w).elt) → Prop
  | ⟨0, _⟩, _, _ => True
  | ⟨1, _⟩, _, _ => True
  | ⟨2, _⟩, _, _ => True
  | ⟨3, _⟩, t, X => X = dxOf (gm t.val) (Tg m c t) (scT m c) (dT m c) (dsT m c)
  | ⟨4, _⟩, t, X => X = codesBlk (Xg m c (gq t.val))
  | ⟨5, _⟩, t, X => Scaled m c (t.val + 1) X

/-- The proof data: inputs keep their blocks, the outputs are left to `Rl`, the scratch is tracked by `Filled`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
  Φ t := iprop(∃ D, ∃ DS, ⌜Filled m c t.val D DS⌝ ∗ owns (c : Thread nD τ) scM0_0 fullShare D ∗ owns (c : Thread nD τ) scM0_1 fullShare DS ∗ (∃ r, prngReg c r))
  q _ := fullShare
  owed _ := 0

/-- The arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The relational data on core `c`. -/
abbrev rdat (c : Dev nD) := (dats m 0 c).toRRel marks0 (Rl m c)

/-! ## What the body finds in the outputs it keeps -/

theorem fetch_out (w : Fin cfg0.W) (h : (cfg0.win w).isOut = true) (t : Fin cfg0.N) : (cfg0.win w).fetch t = false :=
  (cfg0.win w).fetch_out h t

/-- No code block is written back at the points 7 to 38. -/
theorem flush4 (t : Fin cfg0.N) (h7 : 7 ≤ t.val) (h : t.val < 39) : (cfg0.win 4).flush t = false := by
  have hN : t.val < 40 := by omega
  have : ∀ n : Fin 40, 7 ≤ n.val → n.val < 39 → (cfg0.win 4).flush ⟨n.val, lt_of_lt_of_eq n.isLt (show (40 : ℕ) = cfg0.N from N_0.symm)⟩ = false := by decide
  exact this ⟨t.val, hN⟩ h7 h

theorem finds4 (c : Dev nD) (t : Fin cfg0.N) (h8 : 8 ≤ t.val) (Y) (h : (rdat m c).Finds 4 t Y) : Y = codesBlk (Xg m c (gq t.val)) := by
  have hN : t.val < 40 := lt_of_lt_of_eq t.isLt (show cfg0.N = 40 from N_0)
  rcases ((rdat m c).finds_of_pos (fetch_out 4 rfl t) (by omega) Y).mp h with hf | hl
  · rw [flush4 _ (by show 7 ≤ t.val - 1; omega) (by show t.val - 1 < 39; omega)] at hf
    exact absurd hf Bool.false_ne_true
  · have h4 : Rl m c 4 ⟨t.val - 1, _⟩ Y := Dat.toRRel_leaves (dat := dats m 0 c) rfl hl
    have h4 : Y = codesBlk (Xg m c (gq (t.val - 1))) := h4
    rw [h4]
    congr 2
    apply Fin.ext
    show min (t.val - 1) 7 = min t.val 7
    omega

theorem finds5 (c : Dev nD) (t : Fin cfg0.N) (Y) (h : (rdat m c).Finds 5 t Y) : Scaled m c t.val Y := by
  have hN : t.val < 40 := lt_of_lt_of_eq t.isLt (show cfg0.N = 40 from N_0)
  by_cases h0 : t.val = 0
  · intro j hj; omega
  rcases ((rdat m c).finds_of_pos (fetch_out 5 rfl t) h0 Y).mp h with hf | hl
  · have := (flush0_5 _).mp hf
    have : (t.val - 1) % 40 = 39 := this
    omega
  · have h5 : Rl m c 5 ⟨t.val - 1, _⟩ Y := Dat.toRRel_leaves (dat := dats m 0 c) rfl hl
    have h5 : Scaled m c (t.val - 1 + 1) Y := h5
    rwa [Nat.sub_add_cancel (by omega)] at h5

end Cert.KernelIdeal.Run

end
-- ==== Proof.Body.lean ====
/- The body's triple at every point, the launch, and the frame at the ideal values. -/
module

public import proofs.«01_k».proof.Proof.Data
public import Idealize.ShloMosaic.Lib.Claim

@[expose] public section

-- membership in a rectangle of production extents (`View.cover_of_tiled`): the elaborator's structural look
-- recurses once per coordinate of the long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

theorem grp_val (t : Fin cfg0.N) : grp (grid0.coords t) = gm t.val := by
  have e : ∀ t : Fin grid0.N, (grid0.coords t 1).val = t.val / 1 % 8 := fun t => Pipeline.Grid.coords_val t 1 (by decide) rfl
  have e1 := e t
  apply Fin.ext
  show (grid0.coords t 1).val = t.val % 8
  rw [e1, Nat.div_one]

/-- The per-channel factors are staged once. -/
theorem iblk2_eq (c : Dev nD) (t : Fin cfg0.N) : iblk m c 2 t = Wg m c := rfl

theorem iblk0_eq (c : Dev nD) (t : Fin cfg0.N) (h : t.val < 8) : iblk m c 0 t = Xg m c (gm t.val) := by
  have : t = pt (gm t.val) := Fin.ext (by show t.val = t.val % 8; omega)
  unfold Xg
  rw [← this]

theorem filled_succ (c : Dev nD) (n : ℕ) (h : n < 8) (D DS) (hf : Filled m c n D DS) :
    Filled m c (n + 1) (dUpd (gm n) (Xg m c (gm n)) (Wg m c) D) (dsUpd (gm n) (Xg m c (gm n)) (Wg m c) DS) := by
  intro j hj
  have hg : (gm n).val = n := Nat.mod_eq_of_lt h
  unfold dUpd dsUpd dT dsT
  by_cases he : (j 0).val = n
  · have e : (gm n : Fin 8) = j 0 := Fin.ext (hg.trans he.symm)
    rw [if_pos (he.trans hg.symm), if_pos (he.trans hg.symm), e]
    exact ⟨rfl, rfl⟩
  · rw [if_neg (by rw [hg]; exact he), if_neg (by rw [hg]; exact he)]
    exact hf j (by omega)

theorem filled_keep (c : Dev nD) (n : ℕ) (h : 8 ≤ n) (D DS) (hf : Filled m c n D DS) : Filled m c (n + 1) D DS := by
  intro j hj
  have : (j 0).val < 8 := (j 0).isLt
  exact hf j (by omega)

theorem scaled_succ (c : Dev nD) (n : ℕ) (h : n < 8) (c5) (hf : Scaled m c n c5) :
    Scaled m c (n + 1) (scaleUpd (gm n) (Xg m c (gm n)) c5) := by
  intro j hj
  have hg : (gm n).val = n := Nat.mod_eq_of_lt h
  unfold scaleUpd scT
  by_cases he : (j 0).val / 3 = n
  · have e : (gm n : Fin 8) = ⟨(j 0).val / 3, by have h : (j 0).val < 24 := (j 0).isLt; omega⟩ := Fin.ext (hg.trans he.symm)
    rw [if_pos (he.trans hg.symm), e]
  · rw [if_neg (by rw [hg]; exact he)]
    exact hf j (by omega)

theorem scaled_keep (c : Dev nD) (n : ℕ) (h : 8 ≤ n) (c5) (hf : Scaled m c n c5) : Scaled m c (n + 1) c5 := by
  intro j hj
  have : (j 0).val < 24 := (j 0).isLt
  exact hf j (by omega)

/-- What the body writes depends on the filled slab and the group's scale words alone. -/
theorem dxOf_filled (c : Dev nD) (n : ℕ) (h : n < 40) (x1) (c5 D DS) (hf : Filled m c (n + 1) D DS) (hs : Scaled m c (n + 1) c5) :
    dxOf (gm n) x1 c5 D DS = dxOf (gm n) x1 (scT m c) (dT m c) (dsT m c) := by
  have hg : (gm n).val < n + 1 := by show n % 8 < n + 1; omega
  unfold dxOf
  have e1 : (fun (r : Fin 384) (k : Fin 1280) => D (ix3 (gm n) r k)) = fun r k => dT m c (ix3 (gm n) r k) :=
    funext fun r => funext fun k => (hf (ix3 (gm n) r k) hg).1
  have e2 : (fun (r : Fin 384) (k : Fin 1280) => DS (ix3 (gm n) r k)) = fun r k => dsT m c (ix3 (gm n) r k) :=
    funext fun r => funext fun k => (hf (ix3 (gm n) r k) hg).2
  have e3 : (fun j : Fin 3 => c5 (ix1 ⟨3 * (gm n).val + j.val, by have := (gm n).isLt; have := j.isLt; omega⟩))
      = fun j => scT m c (ix1 ⟨3 * (gm n).val + j.val, by have := (gm n).isLt; have := j.isLt; omega⟩) :=
    funext fun j => hs _ (by
      show (3 * (gm n).val + j.val) / 3 < n + 1
      have := j.isLt; omega)
  rw [e1, e2, e3]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ Y, ⌜(rdat m c).Finds 3 t Y⌝ ∗ owns (c : Thread nD τ) (ms0_3 t) fullShare Y)
    ∗ (∃ Y, ⌜(rdat m c).Finds 4 t Y⌝ ∗ owns (c : Thread nD τ) (ms0_4 t) fullShare Y)
    ∗ (∃ Y, ⌜(rdat m c).Finds 5 t Y⌝ ∗ owns (c : Thread nD τ) (ms0_5 t) fullShare Y))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ X, ⌜Rl m c 3 t X⌝ ∗ owns (c : Thread nD τ) (ms0_3 t) fullShare X)
    ∗ (∃ X, ⌜Rl m c 4 t X⌝ ∗ owns (c : Thread nD τ) (ms0_4 t) fullShare X)
    ∗ (∃ X, ⌜Rl m c 5 t X⌝ ∗ owns (c : Thread nD τ) (ms0_5 t) fullShare X))

set_option maxHeartbeats 1600000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, after0_0, after0_1, after0_2]
  rw [show (dats m 0 c).owesAt () t.succ = (dats m 0 c).owesAt () t.castSucc from rfl]
  rw [show (dats m 0 c).Φ t.succ = iprop(∃ D, ∃ DS, ⌜Filled m c (t.val + 1) D DS⌝ ∗ owns (c : Thread nD τ) scM0_0 fullShare D ∗ owns (c : Thread nD τ) scM0_1 fullShare DS ∗ (∃ r, prngReg c r)) from rfl,
    show (dats m 0 c).Φ t.castSucc = iprop(∃ D, ∃ DS, ⌜Filled m c t.val D DS⌝ ∗ owns (c : Thread nD τ) scM0_0 fullShare D ∗ owns (c : Thread nD τ) scM0_1 fullShare DS ∗ (∃ r, prngReg c r)) from rfl]
  have hN : t.val < 40 := lt_of_lt_of_eq t.isLt (show cfg0.N = 40 from N_0)
  rw [cc0_dgrad_eq]
  by_cases h0 : t.val < 8
  · rw [dif_pos ((hcond0_0 t).mpr h0), wp_bind]
    iintro ⟨⟨%D, %DS, %hf, HS0, HS1, Hg⟩, Ho, ⟨%d0, H0⟩, ⟨%d1, H1⟩, ⟨%d2, H2⟩, ⟨%d3, %f3, H3⟩, ⟨%d4, %f4, H4⟩, ⟨%d5, %f5, H5⟩⟩
    iapply (run_quant c (grid0.coords t) _ _ _ _ _ _ _ _ _ _ _ _ _ _ _ _ ((hcond0_0 t).mpr h0) (iblk m c 0 t) (iblk m c 2 t) d5 D DS Set.univ _)
    isplitl [H0]; · iexact H0
    isplitl [H2]; · iexact H2
    isplitl [H4]; · iexists _; iexact H4
    isplitl [H5]; · iexact H5
    isplitl [HS0]; · iexact HS0
    isplitl [HS1]; · iexact HS1
    iintro ⟨H0, H2, H4, H5, HS0, HS1⟩
    iapply (run_main c (grid0.coords t) _ _ _ _ _ _ _ _ _ _ _ _ _ _ _ _ (iblk m c 1 t) _ _ _ Set.univ _)
    isplitl [H1]; · iexact H1
    isplitl [H3]; · iexists _; iexact H3
    isplitl [H5]; · iexact H5
    isplitl [HS0]; · iexact HS0
    isplitl [HS1]; · iexact HS1
    iintro ⟨H1, H3, H5, HS0, HS1⟩
    have F' : Filled m c (t.val + 1) (dUpd (grp (grid0.coords t)) (iblk m c 0 t) (iblk m c 2 t) D) (dsUpd (grp (grid0.coords t)) (iblk m c 0 t) (iblk m c 2 t) DS) := by
      rw [grp_val, iblk0_eq m c t h0, iblk2_eq]; exact filled_succ m c t.val h0 D DS hf
    have S' : Scaled m c (t.val + 1) (scaleUpd (grp (grid0.coords t)) (iblk m c 0 t) d5) := by
      rw [grp_val, iblk0_eq m c t h0]; exact scaled_succ m c t.val h0 d5 (finds5 m c t d5 f5)
    isplitl [HS0 HS1 Hg]
    · iexists _; iexists _
      isplitr; · ipureintro; exact F'
      isplitl [HS0]; · iexact HS0
      isplitl [HS1]; · iexact HS1
      iexact Hg
    isplitl [Ho]; · iexact Ho
    isplitl [H0]; · iexact H0
    isplitl [H1]; · iexact H1
    isplitl [H2]; · iexact H2
    isplitl [H3]
    · iexists _; isplitr; swap; · iexact H3
      ipureintro
      show dxOf _ _ _ _ _ = dxOf _ _ _ _ _
      rw [← grp_val t]
      have := dxOf_filled m c t.val hN (iblk m c 1 t) _ _ _ F' S'
      rw [← grp_val t] at this
      exact this
    isplitl [H4]
    · iexists _; isplitr; swap; · iexact H4
      ipureintro
      show codesBlk _ = codesBlk _
      rw [iblk0_eq m c t h0]
      congr 2
      apply Fin.ext
      show t.val % 8 = min t.val 7
      omega
    iexists _; isplitr; swap; · iexact H5
    ipureintro
    exact S'
  · rw [dif_neg (fun h => h0 ((hcond0_0 t).mp h))]
    have e : ∀ k : PUnit → Prog (TpuEff nD τ sig (Elt Ideal) Λ₀ .tc) PUnit, ((pure ⟨⟩ : Prog (TpuEff nD τ sig (Elt Ideal) Λ₀ .tc) PUnit) >>= k) = k ⟨⟩ := fun _ => rfl
    rw [e]
    iintro ⟨⟨%D, %DS, %hf, HS0, HS1, Hg⟩, Ho, ⟨%d0, H0⟩, ⟨%d1, H1⟩, ⟨%d2, H2⟩, ⟨%d3, %f3, H3⟩, ⟨%d4, %f4, H4⟩, ⟨%d5, %f5, H5⟩⟩
    iapply (run_main c (grid0.coords t) _ _ _ _ _ _ _ _ _ _ _ _ _ _ _ _ (iblk m c 1 t) d5 D DS Set.univ _)
    isplitl [H1]; · iexact H1
    isplitl [H3]; · iexists _; iexact H3
    isplitl [H5]; · iexact H5
    isplitl [HS0]; · iexact HS0
    isplitl [HS1]; · iexact HS1
    iintro ⟨H1, H3, H5, HS0, HS1⟩
    have F' : Filled m c (t.val + 1) D DS := filled_keep m c t.val (by omega) D DS hf
    have S' : Scaled m c (t.val + 1) d5 := scaled_keep m c t.val (by omega) d5 (finds5 m c t d5 f5)
    isplitl [HS0 HS1 Hg]
    · iexists _; iexists _
      isplitr; · ipureintro; exact F'
      isplitl [HS0]; · iexact HS0
      isplitl [HS1]; · iexact HS1
      iexact Hg
    isplitl [Ho]; · iexact Ho
    isplitl [H0]; · iexact H0
    isplitl [H1]; · iexact H1
    isplitl [H2]; · iexact H2
    isplitl [H3]
    · iexists _; isplitr; swap; · iexact H3
      ipureintro
      show dxOf _ _ _ _ _ = dxOf _ _ _ _ _
      have := dxOf_filled m c t.val hN (iblk m c 1 t) _ _ _ F' S'
      rw [← grp_val t] at this ⊢
      exact this
    isplitl [H4]
    · iexists _; isplitr; swap; · iexact H4
      ipureintro
      exact finds4 m c t (by omega) d4 f4
    iexists _; isplitr; swap; · iexact H5
    ipureintro
    exact S'

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point. -/
theorem body_obligation (c : Dev nD) :
    Pipeline.BodyObligationRel (dats m 0 c) (defs₀ (F := Ideal)) Variants.none () Set.univ marks0 (Rl m c) := fun t => by
  rw [bigSep_W0, bigSep_W0, defs₀_row]
  exact triple_restated (sound_body m c t) rfl .rfl fun _ => .rfl

/-! ## The run -/

theorem hin (c : Dev nD) : (Pipeline.ΦA spec0 c : sProp 𝕄) ⊢ (dats m 0 c).Φ 0 := by
  rw [PhiA0_eq, show (dats m 0 c).Φ 0 = iprop(∃ D, ∃ DS, ⌜Filled m c 0 D DS⌝ ∗ owns (c : Thread nD τ) scM0_0 fullShare D ∗ owns (c : Thread nD τ) scM0_1 fullShare DS ∗ (∃ r, prngReg c r)) from rfl]
  iintro ⟨⟨⟨%D, HS0⟩, ⟨%DS, HS1⟩⟩, Hg⟩
  iexists D; iexists DS
  isplitr; · ipureintro; exact fun j hj => absurd hj (Nat.not_lt_zero _)
  isplitl [HS0]; · iexact HS0
  isplitl [HS1]; · iexact HS1
  iexact Hg

theorem hout (c : Dev nD) : (dats m 0 c).Φ (Fin.last cfg0.N) ⊢ (Pipeline.ΦA spec0 c : sProp 𝕄) := by
  rw [PhiA0_eq, show (dats m 0 c).Φ (Fin.last cfg0.N) = iprop(∃ D, ∃ DS, ⌜Filled m c cfg0.N D DS⌝ ∗ owns (c : Thread nD τ) scM0_0 fullShare D ∗ owns (c : Thread nD τ) scM0_1 fullShare DS ∗ (∃ r, prngReg c r)) from rfl]
  iintro ⟨%D, %DS, %hf, HS0, HS1, Hg⟩
  isplitl [HS0 HS1]
  · isplitl [HS0]
    · iexists _; iexact HS0
    iexists _; iexact HS1
  iexact Hg

set_option backward.isDefEq.respectTransparency.types false in
/-- The launch: every result as the relational data says, and every semaphore at zero. -/
theorem run_rel : θ_run defs (onTc (τ := τ) (main (F := Ideal))) (s₀ m ρ)
    (fun r => (Pipeline.RDat.FramePost (cfgs 0) (rdat m) (V m)) r ∧ r.2.sem = fun _ => 0) :=
  Pipeline.RDat.θ_run_frame_track (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hin := hin m) (hout := hout m)

/-- The arguments are as they were. -/
theorem unchanged_run : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of_rel m ρ (rdat m) (A_eq m) ((θ_run defs _ _).mono (fun _ h => h.1) (run_rel m ρ))

/-- The frame at the ideal values. -/
theorem frame_ideal : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  θ_run_and (unchanged_run m ρ) ((θ_run defs _ _).mono (fun _ h => h.2) (run_rel m ρ))

end Cert.KernelIdeal.Run

end
-- ==== Proof.Result.lean ====
/- What the three result arrays hold after the run, as functions of the argument arrays. -/
module

public import proofs.«01_k».proof.Proof.Body
public import Idealize.ShloMosaic.Lib.Pipeline.ValueKit
public import Idealize.ShloMosaic.Lib.Pipeline.ArrRel
public import Idealize.ShloMosaic.Lib.Pointwise

@[expose] public section

-- membership in a rectangle of production extents (`View.cover_of_tiled`): the elaborator's structural look
-- recurses once per coordinate of the long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The argument arrays. -/
def A0 (c : Dev nD) : Vec Ideal S24x8x16x1280 .bf16 := m ((c : Thread nD τ).loc main_arg0)
def A1 (c : Dev nD) : Vec Ideal S3x3x2560x1280 .fp8e4m3 := m ((c : Thread nD τ).loc main_arg1)
def A2 (c : Dev nD) : Vec Ideal S1280 .f32 := m ((c : Thread nD τ).loc main_arg2)

theorem idx0 : ∀ t : Fin cfg0.N, win0_0.index t = ![min t.val 7, 0, 0, 0] :=
  (by decide +kernel : ∀ t : Fin grid0.N, win0_0.index t = ![min t.val 7, 0, 0, 0])
theorem idx1 : ∀ t : Fin cfg0.N, win0_1.index t = ![0, 0, t.val / 8, 0] :=
  (by decide +kernel : ∀ t : Fin grid0.N, win0_1.index t = ![0, 0, t.val / 8, 0])
theorem idx2 : ∀ t : Fin cfg0.N, win0_2.index t = ![0, 0] :=
  (by decide +kernel : ∀ t : Fin grid0.N, win0_2.index t = ![0, 0])
theorem idx3 : ∀ t : Fin cfg0.N, win0_3.index t = ![t.val % 8, 0, 0, t.val / 8] :=
  (by decide +kernel : ∀ t : Fin grid0.N, win0_3.index t = ![t.val % 8, 0, 0, t.val / 8])
theorem idx4 : ∀ t : Fin cfg0.N, win0_4.index t = ![min t.val 7, 0, 0, 0] :=
  (by decide +kernel : ∀ t : Fin grid0.N, win0_4.index t = ![min t.val 7, 0, 0, 0])
theorem idx5 : ∀ t : Fin cfg0.N, win0_5.index t = ![0] :=
  (by decide +kernel : ∀ t : Fin grid0.N, win0_5.index t = ![0])

theorem Xg_apply (c : Dev nD) (g : Fin 8) (i : Fin 3) (o : Fin 8) (x : Fin 16) (k : Fin 1280) :
    Xg m c g (ix4 i o x k) = A0 m c (ix4 ⟨3 * g.val + i.val, by omega⟩ o x k) := by
  unfold Xg A0
  rw [← V_main_arg0 m c]
  blk_simp [iblk]
  congr 1
  have hg : min (pt g).val 7 = g.val := by show min g.val 7 = g.val; omega
  blk_ext [idx0, hg]
theorem Tg_apply (c : Dev nD) (t : Fin cfg0.N) (a b : Fin 3) (n : Fin 512) (k : Fin 1280) :
    Tg m c t (ix4 a b n k) = A1 m c (ix4 a b ⟨512 * (t.val / 8) + n.val, by have := lt_of_lt_of_eq t.isLt (show cfg0.N = 40 from N_0); omega⟩ k) := by
  unfold Tg A1
  rw [← V_main_arg1 m c]
  blk_simp [iblk]
  congr 1
  blk_ext [idx1]
theorem V_main_v0 (c : Dev nD) (k : Fin 1280) : V m c main_v0 (ix2 0 k) = A2 m c (ix1 k) := by
  have e : V m c main_v0 = (StableHlo.reshape main_arg2 main_v0 (rfl : (.f32 : EltTy) = .f32) shapeCasts_S1280_S1x1280 : HloOp τ sig (Elt Ideal)).result (fun b => m (c, b)) main_v0 := rfl
  rw [e, StableHlo.reshape_result]
  show shapeCast S1x1280 (A2 m c) shapeCasts_S1280_S1x1280 (ix2 0 k) = A2 m c (ix1 k)
  refine shapeCast_apply _ _ (ix2 (0 : Fin 1) k) (ix1 k) ?_
  rw [Shape.rowMajor_val_two, Shape.rowMajor_val_one]; show k.val = 0 * 1280 + k.val; omega
theorem Wg_apply (c : Dev nD) (k : Fin 1280) : Wg m c (ix2 0 k) = A2 m c (ix1 k) := by
  rw [← V_main_v0]
  unfold Wg
  blk_simp [iblk]
  congr 1
  blk_ext [idx2]

/-! ## The specification over the argument arrays -/

/-- An image alone. -/
def slab (A : Vec Ideal S24x8x16x1280 .bf16) (n : Fin 24) : Vec Ideal S1x8x16x1280 .bf16 := fun j => A (ix4 n (j 1) (j 2) (j 3))
/-- The scale and the inverse scale of image `n`. -/
def scaleAt (A : Vec Ideal S24x8x16x1280 .bf16) (n : Fin 24) : EReal := k0_pay5 (F := Ideal) (slab A n)
def invAt (A : Vec Ideal S24x8x16x1280 .bf16) (n : Fin 24) : EReal := k0_pay6 (F := Ideal) (slab A n)
/-- A scaled code, 0 outside the image. -/
def qd (A : Vec Ideal S24x8x16x1280 .bf16) (W : Vec Ideal S1280 .f32) (n : Fin 24) (o x : ℕ) (k : Fin 1280) : EReal :=
  if h : o < 8 ∧ x < 16 then clip (A (ix4 n ⟨o, h.1⟩ ⟨x, h.2⟩ k) * invAt A n) * W (ix1 k) else 0
/-- One pixel against one tap. -/
def tsum (A : Vec Ideal S24x8x16x1280 .bf16) (T : Vec Ideal S3x3x2560x1280 .fp8e4m3) (W : Vec Ideal S1280 .f32) (n : Fin 24) (o x : ℕ)
    (a b : Fin 3) (oc : Fin 2560) : EReal := ∑ k : Fin 1280, qd A W n o x k * T (ix4 a b oc k)
/-- The nine taps at an output pixel, by the parities of its row and column. -/
def accAt (A : Vec Ideal S24x8x16x1280 .bf16) (T : Vec Ideal S3x3x2560x1280 .fp8e4m3) (W : Vec Ideal S1280 .f32) (n : Fin 24) (y x : ℕ)
    (oc : Fin 2560) : EReal :=
  if y % 2 = 0 then
    if x % 2 = 0 then tsum A T W n (y / 2) (x / 2) 1 1 oc
    else tsum A T W n (y / 2) (x / 2) 1 2 oc + tsum A T W n (y / 2) (x / 2 + 1) 1 0 oc
  else
    if x % 2 = 0 then tsum A T W n (y / 2) (x / 2) 2 1 oc + tsum A T W n (y / 2 + 1) (x / 2) 0 1 oc
    else tsum A T W n (y / 2) (x / 2) 2 2 oc + tsum A T W n (y / 2) (x / 2 + 1) 2 0 oc
      + (tsum A T W n (y / 2 + 1) (x / 2) 0 2 oc + tsum A T W n (y / 2 + 1) (x / 2 + 1) 0 0 oc)
/-- The three results. -/
def Gdx (A : Vec Ideal S24x8x16x1280 .bf16) (T : Vec Ideal S3x3x2560x1280 .fp8e4m3) (W : Vec Ideal S1280 .f32) : Vec Ideal S24x16x32x2560 .bf16 :=
  fun j => accAt A T W (j 0) (j 1).val (j 2).val (j 3) * scaleAt A (j 0)
def Gcodes (A : Vec Ideal S24x8x16x1280 .bf16) : Vec Ideal S24x8x16x1280 .fp8e5m2 := fun j => clip (A j * invAt A (j 0))
def Gscale (A : Vec Ideal S24x8x16x1280 .bf16) : Vec Ideal S24 .f32 := fun j => scaleAt A (j 0)

theorem img_Xg (c : Dev nD) (g : Fin 8) (i : Fin 3) : img (Xg m c g) i = slab (A0 m c) ⟨3 * g.val + i.val, by omega⟩ := by
  funext j
  unfold img slab
  exact Xg_apply m c g i (j 1) (j 2) (j 3)

theorem scaleOf_Xg (c : Dev nD) (g : Fin 8) (i : Fin 3) : scaleOf (Xg m c g) i = scaleAt (A0 m c) ⟨3 * g.val + i.val, by omega⟩ := by
  unfold scaleOf scaleAt; rw [img_Xg]
theorem invOf_Xg (c : Dev nD) (g : Fin 8) (i : Fin 3) : invOf (Xg m c g) i = invAt (A0 m c) ⟨3 * g.val + i.val, by omega⟩ := by
  unfold invOf invAt; rw [img_Xg]

theorem scT_apply (c : Dev nD) (n : Fin 24) : scT m c (ix1 n) = scaleAt (A0 m c) n := by
  unfold scT
  rw [scaleOf_Xg]
  congr 1
  apply Fin.ext
  show 3 * (n.val / 3) + n.val % 3 = n.val
  omega

theorem dT_apply (c : Dev nD) (g : Fin 8) (i : Fin 3) (o : Fin 8) (x : Fin 16) (k : Fin 1280) (r : Fin 384) (hr : r.val = (o.val * 3 + i.val) * 16 + x.val) :
    dT m c (ix3 g r k) = qd (A0 m c) (A2 m c) ⟨3 * g.val + i.val, by omega⟩ o.val x.val k := by
  have h1 : r.val / 16 % 3 = i.val := by omega
  have h2 : r.val / 48 = o.val := by omega
  have h3 : r.val % 16 = x.val := by omega
  show dRow (Xg m c g) (Wg m c) r k = _
  unfold dRow qd
  rw [dif_pos ⟨o.isLt, x.isLt⟩]
  simp only [h1, h2, h3, Xg_apply, Wg_apply, invOf_Xg]

theorem dsT_apply (c : Dev nD) (g : Fin 8) (i : Fin 3) (o : Fin 8) (x : Fin 16) (k : Fin 1280) (r : Fin 384) (hr : r.val = (o.val * 3 + i.val) * 16 + x.val) :
    dsT m c (ix3 g r k) = qd (A0 m c) (A2 m c) ⟨3 * g.val + i.val, by omega⟩ o.val (x.val + 1) k := by
  have h3 : r.val % 16 = x.val := by omega
  show dsRow (Xg m c g) (Wg m c) r k = _
  unfold dsRow
  by_cases h : r.val % 16 < 15
  · rw [dif_pos h]
    have := dT_apply m c g i o ⟨x.val + 1, by omega⟩ k ⟨r.val + 1, by omega⟩ (by show r.val + 1 = (o.val * 3 + i.val) * 16 + (x.val + 1); omega)
    exact this
  · rw [dif_neg h]
    unfold qd
    rw [dif_neg (by omega)]

theorem qd_below (A : Vec Ideal S24x8x16x1280 .bf16) (W : Vec Ideal S1280 .f32) (n : Fin 24) (x : ℕ) (k : Fin 1280) (o : ℕ) (h : 8 ≤ o) : qd A W n o x k = 0 := by
  unfold qd
  rw [dif_neg (by omega)]
theorem tsum_below (A : Vec Ideal S24x8x16x1280 .bf16) (T : Vec Ideal S3x3x2560x1280 .fp8e4m3) (W : Vec Ideal S1280 .f32) (n : Fin 24) (o x : ℕ)
    (a b : Fin 3) (oc : Fin 2560) (h : 8 ≤ o) : tsum A T W n o x a b oc = 0 := by
  unfold tsum
  refine Finset.sum_eq_zero fun k _ => ?_
  rw [qd_below A W n x k o h]; exact zero_mul _

/-- What the body writes at point `t`, by pixel. -/
theorem dx_apply (c : Dev nD) (t : Fin cfg0.N) (i : Fin 3) (y : Fin 16) (x : Fin 32) (n : Fin 512) :
    dxOf (gm t.val) (Tg m c t) (scT m c) (dT m c) (dsT m c) (ix4 i y x n)
      = Gdx (A0 m c) (A1 m c) (A2 m c) (ix4 ⟨3 * (t.val % 8) + i.val, by omega⟩ y x
          ⟨512 * (t.val / 8) + n.val, by have := lt_of_lt_of_eq t.isLt (show cfg0.N = 40 from N_0); omega⟩) := by
  unfold dxOf dxBlk Gdx
  have hr : (((y.val / 2) * 3 + i.val) * 16 + x.val / 2) < 384 := by omega
  have D : ∀ a b : Fin 3, dotp (fun r k => dT m c (ix3 (gm t.val) r k)) (fun n k => Tg m c t (ix4 a b n k)) ⟨((y.val / 2) * 3 + i.val) * 16 + x.val / 2, hr⟩ n
      = tsum (A0 m c) (A1 m c) (A2 m c) ⟨3 * (t.val % 8) + i.val, by omega⟩ (y.val / 2) (x.val / 2) a b ⟨512 * (t.val / 8) + n.val, by have := lt_of_lt_of_eq t.isLt (show cfg0.N = 40 from N_0); omega⟩ := fun a b => by
    unfold dotp tsum
    refine Finset.sum_congr rfl fun k _ => ?_
    exact congrArg₂ (· * ·) (dT_apply m c (gm t.val) i ⟨y.val / 2, by omega⟩ ⟨x.val / 2, by omega⟩ k _ rfl) (Tg_apply m c t a b n k)
  have DS : ∀ a b : Fin 3, dotp (fun r k => dsT m c (ix3 (gm t.val) r k)) (fun n k => Tg m c t (ix4 a b n k)) ⟨((y.val / 2) * 3 + i.val) * 16 + x.val / 2, hr⟩ n
      = tsum (A0 m c) (A1 m c) (A2 m c) ⟨3 * (t.val % 8) + i.val, by omega⟩ (y.val / 2) (x.val / 2 + 1) a b ⟨512 * (t.val / 8) + n.val, by have := lt_of_lt_of_eq t.isLt (show cfg0.N = 40 from N_0); omega⟩ := fun a b => by
    unfold dotp tsum
    refine Finset.sum_congr rfl fun k _ => ?_
    exact congrArg₂ (· * ·) (dsT_apply m c (gm t.val) i ⟨y.val / 2, by omega⟩ ⟨x.val / 2, by omega⟩ k _ rfl) (Tg_apply m c t a b n k)
  have N : ∀ a b : Fin 3, nextp (fun r k => dT m c (ix3 (gm t.val) r k)) (fun n k => Tg m c t (ix4 a b n k)) ⟨((y.val / 2) * 3 + i.val) * 16 + x.val / 2, hr⟩ n
      = tsum (A0 m c) (A1 m c) (A2 m c) ⟨3 * (t.val % 8) + i.val, by omega⟩ (y.val / 2 + 1) (x.val / 2) a b ⟨512 * (t.val / 8) + n.val, by have := lt_of_lt_of_eq t.isLt (show cfg0.N = 40 from N_0); omega⟩ := fun a b => by
    unfold nextp
    by_cases h : y.val / 2 < 7
    · rw [dif_pos (by show ((y.val / 2) * 3 + i.val) * 16 + x.val / 2 < 336; omega)]
      unfold dotp tsum
      refine Finset.sum_congr rfl fun k _ => ?_
      exact congrArg₂ (· * ·) (dT_apply m c (gm t.val) i ⟨y.val / 2 + 1, by omega⟩ ⟨x.val / 2, by omega⟩ k _ (by show 48 + (((y.val / 2) * 3 + i.val) * 16 + x.val / 2) = ((y.val / 2 + 1) * 3 + i.val) * 16 + x.val / 2; omega)) (Tg_apply m c t a b n k)
    · rw [dif_neg (by show ¬ ((y.val / 2) * 3 + i.val) * 16 + x.val / 2 < 336; omega), tsum_below _ _ _ _ _ _ _ _ _ (by omega)]
  have NS : ∀ a b : Fin 3, nextp (fun r k => dsT m c (ix3 (gm t.val) r k)) (fun n k => Tg m c t (ix4 a b n k)) ⟨((y.val / 2) * 3 + i.val) * 16 + x.val / 2, hr⟩ n
      = tsum (A0 m c) (A1 m c) (A2 m c) ⟨3 * (t.val % 8) + i.val, by omega⟩ (y.val / 2 + 1) (x.val / 2 + 1) a b ⟨512 * (t.val / 8) + n.val, by have := lt_of_lt_of_eq t.isLt (show cfg0.N = 40 from N_0); omega⟩ := fun a b => by
    unfold nextp
    by_cases h : y.val / 2 < 7
    · rw [dif_pos (by show ((y.val / 2) * 3 + i.val) * 16 + x.val / 2 < 336; omega)]
      unfold dotp tsum
      refine Finset.sum_congr rfl fun k _ => ?_
      exact congrArg₂ (· * ·) (dsT_apply m c (gm t.val) i ⟨y.val / 2 + 1, by omega⟩ ⟨x.val / 2, by omega⟩ k _ (by show 48 + (((y.val / 2) * 3 + i.val) * 16 + x.val / 2) = ((y.val / 2 + 1) * 3 + i.val) * 16 + x.val / 2; omega)) (Tg_apply m c t a b n k)
    · rw [dif_neg (by show ¬ ((y.val / 2) * 3 + i.val) * 16 + x.val / 2 < 336; omega), tsum_below _ _ _ _ _ _ _ _ _ (by omega)]
  have S := scT_apply m c ⟨3 * (t.val % 8) + i.val, by omega⟩
  show accp _ _ _ (y.val % 2) (x.val % 2) ⟨((y.val / 2) * 3 + i.val) * 16 + x.val / 2, hr⟩ n * scT m c (ix1 ⟨3 * (t.val % 8) + i.val, _⟩) = accAt _ _ _ ⟨3 * (t.val % 8) + i.val, _⟩ y.val x.val ⟨512 * (t.val / 8) + n.val, _⟩ * scaleAt _ _
  rw [S]
  congr 1
  unfold accp accAt
  simp only [D, DS, N, NS]

/-- The same, at any index of the block and the index of the array under it. -/
theorem dx_block (c : Dev nD) (t : Fin cfg0.N) (y : S3x16x32x512.Idx) (z : S24x16x32x2560.Idx) (h0 : (z 0).val = 3 * (t.val % 8) + (y 0).val)
    (h1 : (z 1).val = (y 1).val) (h2 : (z 2).val = (y 2).val) (h3 : (z 3).val = 512 * (t.val / 8) + (y 3).val) :
    dxOf (gm t.val) (Tg m c t) (scT m c) (dT m c) (dsT m c) y = Gdx (A0 m c) (A1 m c) (A2 m c) z := by
  obtain ⟨a, b, d, e, rfl⟩ : ∃ a b d e, y = ix4 a b d e := ⟨_, _, _, _, eq_ix4 y⟩
  rw [dx_apply]
  congr 1
  funext k
  apply Fin.ext
  match k with
  | ⟨0, _⟩ => exact h0.symm
  | ⟨1, _⟩ => exact h1.symm
  | ⟨2, _⟩ => exact h2.symm
  | ⟨3, _⟩ => exact h3.symm

theorem codes_block (c : Dev nD) (g : Fin 8) (y : S3x8x16x1280.Idx) (z : S24x8x16x1280.Idx) (h0 : (z 0).val = 3 * g.val + (y 0).val)
    (h1 : (z 1).val = (y 1).val) (h2 : (z 2).val = (y 2).val) (h3 : (z 3).val = (y 3).val) :
    codesBlk (Xg m c g) y = Gcodes (A0 m c) z := by
  obtain ⟨a, b, d, e, rfl⟩ : ∃ a b d e, y = ix4 a b d e := ⟨_, _, _, _, eq_ix4 y⟩
  have hz : z = ix4 ⟨3 * g.val + a.val, by omega⟩ b d e := by
    funext k
    apply Fin.ext
    match k with
    | ⟨0, _⟩ => exact h0
    | ⟨1, _⟩ => exact h1
    | ⟨2, _⟩ => exact h2
    | ⟨3, _⟩ => exact h3
  rw [hz]
  unfold codesBlk Gcodes
  rw [Xg_apply]
  show clip (_ * invOf (Xg m c g) a) = clip (_ * invAt (A0 m c) ⟨3 * g.val + a.val, _⟩)
  rw [invOf_Xg]

/-! ## The arrays after the run -/

theorem final (r : PUnit × MemSt nD τ sig (Elt Ideal)) (h : Pipeline.RDat.FramePost (cfgs 0) (rdat m) (V m) r) (c : Dev nD) :
    r.2.mem ((c : Thread nD τ).loc main_v1_0) = Gdx (A0 m c) (A1 m c) (A2 m c)
    ∧ r.2.mem ((c : Thread nD τ).loc main_v1_1) = Gcodes (A0 m c)
    ∧ r.2.mem ((c : Thread nD τ).loc main_v1_2) = Gscale (A0 m c) := by
  obtain ⟨after, hL, hA⟩ := Pipeline.RDat.FramePost.exists_exact h c
  have L3 : ∀ t, after 3 t = dxOf (gm t.val) (Tg m c t) (scT m c) (dT m c) (dsT m c) := fun t =>
    Dat.toRRel_leaves (dat := dats m 0 c) (w := 3) rfl (hL 3 t (flush0_3 t))
  have L4 : ∀ t, (cfg0.win 4).flush t = true → after 4 t = codesBlk (Xg m c (gq t.val)) := fun t hf =>
    Dat.toRRel_leaves (dat := dats m 0 c) (w := 4) rfl (hL 4 t hf)
  have L5 : ∀ t, (cfg0.win 5).flush t = true → Scaled m c (t.val + 1) (after 5 t) := fun t hf =>
    Dat.toRRel_leaves (dat := dats m 0 c) (w := 5) rfl (hL 5 t hf)
  refine ⟨(hA 3).trans ?_, (hA 4).trans ?_, (hA 5).trans ?_⟩
  · refine Dat.arrAt_eq_of_covers _ 3 _ (by decide +kernel) fun t hf y => ?_
    blk_simp
    rw [Pipeline.RDat.withAfter_after, L3 t]
    refine dx_block m c t y _ ?_ ?_ ?_ ?_
    all_goals blk_simp [idx3]
    all_goals omega
  · refine Dat.arrAt_eq_of_covers _ 4 _ (by decide +kernel) fun t hf y => ?_
    blk_simp
    rw [Pipeline.RDat.withAfter_after, L4 t hf]
    have hg : (gq t.val).val = min t.val 7 := rfl
    refine codes_block m c (gq t.val) y _ ?_ ?_ ?_ ?_
    all_goals blk_simp [idx4, hg]
    all_goals omega
  · refine Dat.arrAt_eq_of_covers _ 5 _ (by decide +kernel) fun t hf y => ?_
    blk_simp
    rw [Pipeline.RDat.withAfter_after]
    have hN : t.val = 39 := by
      have h1 := (flush0_5 t).mp hf
      have h2 : t.val < 40 := lt_of_lt_of_eq t.isLt (show cfg0.N = 40 from N_0)
      omega
    have hy : ((y : S24.Idx) 0).val < 24 := ((y : S24.Idx) 0).isLt
    have e := L5 t hf y (by rw [hN]; omega)
    rw [e]
    have e2 := scT_apply m c ((y : S24.Idx) 0)
    have e3 : (y : S24.Idx) = ix1 ((y : S24.Idx) 0) := eq_ix1 _
    refine (congrArg (scT m c) e3).trans (e2.trans ?_)
    show _ = scaleAt (A0 m c) _
    congr 1
    apply Fin.ext
    blk_simp [idx5]

/-- The kernel's run: the three results, and the arguments unchanged. -/
theorem run_values : θ_run defs (onTc (τ := τ) (main (F := Ideal))) ⟨m, fun _ => 0, ρ⟩ (fun r => ∀ c : Dev nD,
      (r.2.mem ((c.tc : Thread nD τ).loc main_v1_0) = Gdx (A0 m c) (A1 m c) (A2 m c)
        ∧ r.2.mem ((c.tc : Thread nD τ).loc main_v1_1) = Gcodes (A0 m c)
        ∧ r.2.mem ((c.tc : Thread nD τ).loc main_v1_2) = Gscale (A0 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨h.1 c, h.2 c⟩)
    (θ_run_and ((θ_run defs _ _).mono (fun r h c => final m r h.1 c) (run_rel m ρ)) (unchanged_run m ρ))

end Cert.KernelIdeal.Run

end
-- ==== Proof.Ref.lean ====
/- What the reference computes, as functions of the argument arrays: its scale, its codes, and the arrays its one
   Pallas call of casts leaves. -/
module

public import proofs.«01_k».proof.Proof.Gen.ReferenceIdeal.Run
public import proofs.«01_k».proof.Proof.Gen.ReferenceIdeal.Read
public import Idealize.ShloMosaic.Lib.Pointwise
public import Idealize.ShloMosaic.Lib.Pipeline.ValueKit

@[expose] public section

noncomputable section

namespace Cert.ReferenceIdeal.Out

open Cert.ReferenceIdeal Cert.ReferenceIdeal.Gen Cert.ReferenceIdeal.Value Idealize.ShloMosaic Idealize.ShloMosaic.TcCoe Idealize.SL.Sem
open Idealize.ShloMosaic.StableHlo Idealize.ShloMosaic.Pipeline Idealize.ShloMosaic.Pointwise

variable (m : (ℓ : Loc nD τ sig) → Buf (Elt Ideal) ℓ)

/-- The gradient as launched. -/
abbrev B0 (c : Dev nD) : Vec Ideal S24x8x16x1280 .bf16 := m ((c : Thread nD τ).loc main_arg0)
/-- The weight as launched. -/
abbrev B1 (c : Dev nD) : Vec Ideal S3x3x2560x1280 .fp8e4m3 := m ((c : Thread nD τ).loc main_arg1)
/-- The weight's scales as launched. -/
abbrev B2 (c : Dev nD) : Vec Ideal S1280 .f32 := m ((c : Thread nD τ).loc main_arg2)

/-- Each image's largest magnitude. -/
def amaxR (A : FVec Ideal S24x8x16x1280 .bf16) : FVec Ideal S24 .f32 :=
  Host.reduce FloatOps.maximumf (Host.absf (extf .f32 A bitsLt_bf16_f32)) (constant S_ .f32 0xFF800000#32) reducesTo_S24x8x16x1280_S24_d1_2_3 h_S_

/-- Each image's largest magnitude over the largest code. -/
def xR (A : FVec Ideal S24x8x16x1280 .bf16) : FVec Ideal S24 .f32 :=
  mulf (amaxR A)
    (broadcastInDim S24 ![] bcast_S_S24 (constant S_ .f32 0x37924925#32))

/-- Each image's exponent. -/
def eR (A : FVec Ideal S24x8x16x1280 .bf16) : FVec Ideal S24 .f32 :=
  select (cmpf .oeq (amaxR A) (broadcastInDim S24 ![] bcast_S_S24 (constant S_ .f32 0x00000000#32)))
    (broadcastInDim S24 ![] bcast_S_S24 (id (constant S_ .f32 0x00000000#32)))
    (addf (Host.floor (Host.divf (Host.log (xR A)) (Host.log (broadcastInDim S24 ![] bcast_S_S24 (constant S_ .f32 0x40000000#32)))))
      (broadcastInDim S24 ![] bcast_S_S24 (constant S_ .f32 0x3F800000#32)))

/-- Each image's scale. -/
def sR (A : FVec Ideal S24x8x16x1280 .bf16) : FVec Ideal S24 .f32 :=
  Host.powf (broadcastInDim S24 ![] bcast_S_S24 (constant S_ .f32 0x40000000#32)) (eR A)

/-- Each image's inverse scale. -/
def iR (A : FVec Ideal S24x8x16x1280 .bf16) : FVec Ideal S24 .f32 :=
  Host.powf (broadcastInDim S24 ![] bcast_S_S24 (constant S_ .f32 0x40000000#32)) (Host.negf (eR A))

/-- The clipped quotients: the codes before their cast. -/
def yR (A : FVec Ideal S24x8x16x1280 .bf16) : FVec Ideal S24x8x16x1280 .f32 :=
  minimumf (broadcastInDim S24x8x16x1280 ![] bcast_S_S24x8x16x1280 (id (constant S_ .f32 0x47600000#32)))
    (maximumf (broadcastInDim S24x8x16x1280 ![] bcast_S_S24x8x16x1280 (id (constant S_ .f32 0xC7600000#32)))
      (mulf (extf .f32 A bitsLt_bf16_f32)
        (broadcastInDim S24x8x16x1280 ![0, 1, 2, 3] bcast_S24x1x1x1_S24x8x16x1280_0_1_2_3
          (broadcastInDim S24x1x1x1 ![0] bcast_S24_S24x1x1x1_0 (iR A)))))

set_option maxHeartbeats 2000000 in
/-- The casts' first operand: the clipped quotients. -/
theorem V_main_v22 (c : Dev nD) : V m c main_v22 = yR (B0 m c) := by
  unfold yR iR eR xR amaxR
  show Gen.V0 m c (Proc.devRef .tc main_v22) = _
  simp only [Gen.V0, Gen.hostOps0, Gen.hostOps0_1, Gen.hostOps0_2, Gen.hostOps0_3, TRef.binary, TRef.ternary, TRef.unary, TRef.toBuf, TRef.ofBuf, cast_eq, List.flatten_cons, List.flatten_nil, List.append_nil, List.cons_append, List.nil_append]
  after_results_simp <;> rfl

/-! Each block of the casts is its whole array. -/

theorem widx0 : ∀ t : Fin cfg0.N, win0_0.index t = ![0, 0, 0, 0] :=
  (by decide +kernel : ∀ t : Fin grid0.N, win0_0.index t = ![0, 0, 0, 0])
theorem emb0 (t : Fin cfg0.N) (y : ((cfg0.win 0).xblock (cfg0.grid.coords t)).Idx) : (win0_0.blk t).view.emb y = y := by
  funext a
  apply Fin.ext
  blk_simp [widx0]
  match a with
  | ⟨0, _⟩ => blk_simp [widx0]
  | ⟨1, _⟩ => blk_simp [widx0]
  | ⟨2, _⟩ => blk_simp [widx0]
  | ⟨3, _⟩ => blk_simp [widx0]
theorem widx1 : ∀ t : Fin cfg0.N, win0_1.index t = ![0, 0, 0, 0] :=
  (by decide +kernel : ∀ t : Fin grid0.N, win0_1.index t = ![0, 0, 0, 0])
theorem emb1 (t : Fin cfg0.N) (y : ((cfg0.win 1).xblock (cfg0.grid.coords t)).Idx) : (win0_1.blk t).view.emb y = y := by
  funext a
  apply Fin.ext
  blk_simp [widx1]
  match a with
  | ⟨0, _⟩ => blk_simp [widx1]
  | ⟨1, _⟩ => blk_simp [widx1]
  | ⟨2, _⟩ => blk_simp [widx1]
  | ⟨3, _⟩ => blk_simp [widx1]
theorem widx2 : ∀ t : Fin cfg0.N, win0_2.index t = ![0, 0, 0, 0] :=
  (by decide +kernel : ∀ t : Fin grid0.N, win0_2.index t = ![0, 0, 0, 0])
theorem emb2 (t : Fin cfg0.N) (y : ((cfg0.win 2).xblock (cfg0.grid.coords t)).Idx) : (win0_2.blk t).view.emb y = y := by
  funext a
  apply Fin.ext
  blk_simp [widx2]
  match a with
  | ⟨0, _⟩ => blk_simp [widx2]
  | ⟨1, _⟩ => blk_simp [widx2]
  | ⟨2, _⟩ => blk_simp [widx2]
  | ⟨3, _⟩ => blk_simp [widx2]
theorem widx3 : ∀ t : Fin cfg0.N, win0_3.index t = ![0, 0, 0, 0] :=
  (by decide +kernel : ∀ t : Fin grid0.N, win0_3.index t = ![0, 0, 0, 0])
theorem emb3 (t : Fin cfg0.N) (y : ((cfg0.win 3).xblock (cfg0.grid.coords t)).Idx) : (win0_3.blk t).view.emb y = y := by
  funext a
  apply Fin.ext
  blk_simp [widx3]
  match a with
  | ⟨0, _⟩ => blk_simp [widx3]
  | ⟨1, _⟩ => blk_simp [widx3]
  | ⟨2, _⟩ => blk_simp [widx3]
  | ⟨3, _⟩ => blk_simp [widx3]
theorem widx4 : ∀ t : Fin cfg0.N, win0_4.index t = ![0, 0, 0, 0] :=
  (by decide +kernel : ∀ t : Fin grid0.N, win0_4.index t = ![0, 0, 0, 0])
theorem emb4 (t : Fin cfg0.N) (y : ((cfg0.win 4).xblock (cfg0.grid.coords t)).Idx) : (win0_4.blk t).view.emb y = y := by
  funext a
  apply Fin.ext
  blk_simp [widx4]
  match a with
  | ⟨0, _⟩ => blk_simp [widx4]
  | ⟨1, _⟩ => blk_simp [widx4]
  | ⟨2, _⟩ => blk_simp [widx4]
  | ⟨3, _⟩ => blk_simp [widx4]

/-- The casts' whole-array blocks are the arrays. -/
theorem iblk0_eq (c : Dev nD) (t : Fin cfg0.N) : (iblk m c 0 t : Vec Ideal S24x8x16x1280 .f32) = V m c main_v22 := by
  funext y
  blk_simp [iblk]
  exact congrArg _ (emb0 t y)

theorem iblk1_eq (c : Dev nD) (t : Fin cfg0.N) : (iblk m c 1 t : Vec Ideal S3x3x2560x1280 .fp8e4m3) = V m c main_arg1 := by
  funext y
  blk_simp [iblk]
  exact congrArg _ (emb1 t y)

theorem out2_eq (X : Vec Ideal S24x8x16x1280 .f32) (Y : Vec Ideal S3x3x2560x1280 .fp8e4m3) : out0_2 X Y = X := by
  unfold out0_2
  rw [View.canon_cons_unit_lit _ _ _ (by decide), View.ld_unit_lit _ _ (by decide)]
  unfold k0_pay1
  funext j
  pointwise

theorem out3_eq (X : Vec Ideal S24x8x16x1280 .f32) (Y : Vec Ideal S3x3x2560x1280 .fp8e4m3) : out0_3 X Y = X := by
  unfold out0_3
  rw [View.canon_cons_unit_lit _ _ _ (by decide), View.ld_unit_lit _ _ (by decide)]
  unfold k0_pay2 k0_pay1
  funext j
  pointwise

theorem out4_eq (X : Vec Ideal S24x8x16x1280 .f32) (Y : Vec Ideal S3x3x2560x1280 .fp8e4m3) : out0_4 X Y = Y := by
  unfold out0_4
  rw [View.canon_cons_unit_lit _ _ _ (by decide), View.ld_unit_lit _ _ (by decide)]
  rfl

/-- The codes array: the clipped quotients, their cast being the identity. -/
theorem reg0 (c : Dev nD) : reg_main_v23_0 m c = yR (B0 m c) := by
  unfold reg_main_v23_0
  refine Dat.arrAt_eq_of_covers _ 2 _ (by decide +kernel) fun t hf y => ?_
  blk_simp
  rw [after0_2, out2_eq, iblk0_eq, V_main_v22]
  exact congrArg (yR (B0 m c)) (emb2 t y).symm

/-- The products' left operand: the codes cast back. -/
theorem reg1 (c : Dev nD) : reg_main_v23_1 m c = yR (B0 m c) := by
  unfold reg_main_v23_1
  refine Dat.arrAt_eq_of_covers _ 3 _ (by decide +kernel) fun t hf y => ?_
  blk_simp
  rw [after0_3, out3_eq, iblk0_eq, V_main_v22]
  exact congrArg (yR (B0 m c)) (emb3 t y).symm

/-- The weight cast up. -/
theorem reg2 (c : Dev nD) : reg_main_v23_2 m c = B1 m c := by
  unfold reg_main_v23_2
  refine Dat.arrAt_eq_of_covers _ 4 _ (by decide +kernel) fun t hf y => ?_
  blk_simp
  rw [after0_4, out4_eq, iblk1_eq, V_main_arg1]
  exact congrArg (B1 m c) (emb4 t y).symm

/-- The input gradient is the last stage of the operations after the casts. -/
theorem dx_eq (c : Dev nD) : res_main_v78 m c = Read.val_main_v78 (F := Ideal) (B2 m c) (yR (B0 m c)) (B1 m c) (sR (B0 m c)) := by
  have e16 : exitV m c (Proc.devRef .tc main_v16) = sR (B0 m c) := exit_main_v16 m c
  rw [← fin_main_v78]
  refine (tail_main_v78 (exitV m c)).trans ((Read.val_main_v78_eq (F := Ideal) (exitV m c)).trans ?_)
  rw [exit_main_arg2, exit_main_v23_2, exit_main_v23_1, reg1, reg2, e16]

end Cert.ReferenceIdeal.Out

end
-- ==== Proof.Scale.lean ====
/- The kernel's exponent read, in closed form: the largest j whose power 2^(j-127) is at most x is found by a
   maximum over an iota, and a power of two is made by shifting an exponent into place. -/
module

public import proofs.«01_k».proof.Proof.Gen.KernelIdeal.Skeleton
public import proofs.«01_k».proof.Proof.Gen.KernelIdeal.Launch
public import Idealize.ShloMosaic.Lib.Pointwise
public import Idealize.ShloMosaic.PureOps.Ideal.Laws

@[expose] public section

noncomputable section

namespace Cert.KernelIdeal.Scale

open Cert.KernelIdeal Cert.KernelIdeal.Gen Idealize.ShloMosaic Idealize.ShloMosaic.Pointwise

/-! ## The constants -/

/-- The pattern whose exponent field is k and whose fraction is zero denotes 2^(k-127). -/
theorem ofBits_pow (b : BitVec 32) (k : ℕ) (hb : b.toNat = k * 2 ^ 23) (h1 : 1 ≤ k) (h2 : k ≤ 254) :
    Ideal.ofBits .f32 b = (((2 : ℝ) ^ ((k : ℤ) - 127) : ℝ) : EReal) := by
  have e0 : (b.extractLsb' 31 1) = 0#1 := by
    apply BitVec.eq_of_toNat_eq; rw [BitVec.extractLsb'_toNat, hb, Nat.shiftRight_eq_div_pow]; norm_num; omega
  have e1 : (b.extractLsb' 23 8).toNat = k := by
    rw [BitVec.extractLsb'_toNat, hb, Nat.shiftRight_eq_div_pow]; norm_num; omega
  have e2 : (b.extractLsb' 0 23).toNat = 0 := by
    rw [BitVec.extractLsb'_toNat, hb, Nat.shiftRight_eq_div_pow]; norm_num
  simp only [Ideal.ofBits, Ideal.ieee]
  norm_num only [e0, e1, e2]
  rw [if_neg (by omega), if_neg (by omega)]
  congr 1
  have : ((k : ℤ) - 127) = (((k : ℤ) - 127 - 23) + 23) := by ring
  rw [this, zpow_add₀ (by norm_num)]
  norm_num
  exact mul_comm _ _

theorem c_val : Ideal.ofBits .f32 0x37924925#32 = (((9586981 : ℝ) * 2 ^ (-39 : ℤ) : ℝ) : EReal) := by
  simp [Ideal.ofBits, Ideal.ieee]
theorem top_val : Ideal.ofBits .f32 0x7F7F0000#32 = (((16711680 : ℝ) * 2 ^ (104 : ℤ) : ℝ) : EReal) := by
  simp [Ideal.ofBits, Ideal.ieee]
theorem two_val : Ideal.ofBits .f32 0x40000000#32 = ((2 : ℝ) : EReal) := by
  rw [ofBits_pow _ 128 (by decide) (by norm_num) (by norm_num)]; norm_num
theorem tiny_val : Ideal.ofBits .f32 0x00800000#32 = (((2 : ℝ) ^ (-126 : ℤ) : ℝ) : EReal) := by
  rw [ofBits_pow _ 1 (by decide) (by norm_num) (by norm_num)]; norm_num
theorem bot_val : Ideal.ofBits .f32 0xFF800000#32 = (⊥ : EReal) := by
  simp [Ideal.ofBits, Ideal.ieee]

/-! ## The exponent read -/

/-- The kernel's search at a value x. -/
def biased (x : EReal) : BitVec 32 :=
  extractAt ![0, 0, 0] (shapeCast S1x1x1 (multiReductionI .maxsi [1, 2] S1
    (shapeCast S1x8x256 (select (cmpf (F := Ideal) (φ := .f32) .olt (broadcast S8x256 x)
      (bitcastToFloat .f32 (shli (iota .tc S8x256 32 [1] iota_S8x256_d1_w32) (broadcast S8x256 23#32))))
      (broadcast S8x256 0#32) (iota .tc S8x256 32 [1] iota_S8x256_d1_w32)) shapeCasts_S8x256_S1x8x256)
    2147483648#32 reduces_S1x8x256_S1 rfl) shapeCasts_S1_S1x1x1) inpos_S1x1x1_p0_0_0

/-- An image's largest magnitude as the kernel takes it. -/
def amaxK (v : Vec Ideal S1x8x16x1280 .bf16) : EReal :=
  extractAt ![0, 0, 0, 0] (shapeCast S1x1x1x1 (multiReduction (F := Ideal) (φ := .f32) .maximumf [1, 2, 3] S1
    (shapeCast S1x8x16x1280 (extf .f32 (absf (F := Ideal) (shapeCast S8x16x1280 v shapeCasts_S1x8x16x1280_S8x16x1280)) bitsLt_bf16_f32) shapeCasts_S8x16x1280_S1x8x16x1280)
    0xFF800000#32 reduces_S1x8x16x1280_S1 (.inl rfl) rfl) shapeCasts_S1_S1x1x1x1) inpos_S1x1x1x1_p0_0_0_0

/-- The exponent from the search. -/
def expo (b : BitVec 32) : BitVec 32 := Scalar.select (Scalar.cmpi .eq b 0#32) 0#32 (Scalar.subi b 126#32)

theorem pay5_eq' (v : Vec Ideal S1x8x16x1280 .bf16) : k0_pay5 (F := Ideal) v
    = Scalar.ofBits (F := Ideal) .f32 (Scalar.shli (Scalar.addi (expo (biased (Scalar.mulf (F := Ideal) (φ := .f32) (amaxK v) (Scalar.ofBits .f32 0x37924925#32)))) 127#32) 23#32) := by
  unfold k0_pay5 expo biased amaxK
  rfl
theorem pay6_eq' (v : Vec Ideal S1x8x16x1280 .bf16) : k0_pay6 (F := Ideal) v
    = Scalar.ofBits (F := Ideal) .f32 (Scalar.shli (Scalar.addi (Scalar.subi 0#32 (expo (biased (Scalar.mulf (F := Ideal) (φ := .f32) (amaxK v) (Scalar.ofBits .f32 0x37924925#32))))) 127#32) 23#32) := by
  unfold k0_pay6 expo biased amaxK
  rfl

theorem sc_ofBits (b : BitVec 32) : Scalar.ofBits (F := Ideal) .f32 b = Ideal.ofBits .f32 b := rfl

theorem pay5_eq (v : Vec Ideal S1x8x16x1280 .bf16) : k0_pay5 (F := Ideal) v
    = Ideal.ofBits .f32 (Scalar.shli (Scalar.addi (expo (biased (amaxK v * Ideal.ofBits .f32 0x37924925#32))) 127#32) 23#32) := by
  rw [pay5_eq', Ideal.scalar_mulf_def, sc_ofBits, sc_ofBits]
theorem pay6_eq (v : Vec Ideal S1x8x16x1280 .bf16) : k0_pay6 (F := Ideal) v
    = Ideal.ofBits .f32 (Scalar.shli (Scalar.addi (Scalar.subi 0#32 (expo (biased (amaxK v * Ideal.ofBits .f32 0x37924925#32)))) 127#32) 23#32) := by
  rw [pay6_eq', Ideal.scalar_mulf_def, sc_ofBits, sc_ofBits]

/-- What the search compares at lane j. -/
def lane (x : EReal) (j : ℕ) : BitVec 32 :=
  if x < Ideal.ofBits .f32 (BitVec.ofNat 32 j <<< 23) then 0#32 else BitVec.ofNat 32 j

theorem extract_1 (v : IVec S1 32) : extractAt ![0, 0, 0] (shapeCast S1x1x1 v shapeCasts_S1_S1x1x1) inpos_S1x1x1_p0_0_0 = v (ix1 0) := by
  pointwise

theorem biased_fold (x : EReal) : biased x = (Finset.univ.filter fun i => reduces_S1x8x256_S1.drop i = ix1 0).fold IntOp.maxsi 2147483648#32
    (fun i : S1x8x256.Idx => lane x (i 2).val) := by
  unfold biased
  rw [extract_1]
  refine (multiReductionI_eq_fold _ _ _ _ _ _).trans ?_
  refine Finset.fold_congr fun i _ => ?_
  obtain ⟨a, b, c, rfl⟩ : ∃ (a : Fin 1) (b : Fin 8) (c : Fin 256), i = ix3 a b c := ⟨i 0, i 1, i 2, eq_ix3 i⟩
  pointwise
  rfl

theorem ofNat_shl (j : ℕ) (h : j < 256) : (BitVec.ofNat 32 j <<< 23).toNat = j * 2 ^ 23 := by
  rw [BitVec.toNat_shiftLeft, BitVec.toNat_ofNat, Nat.shiftLeft_eq]; omega

theorem toInt_small (j : ℕ) (h : j < 256) : (BitVec.ofNat 32 j).toInt = j := by
  rw [BitVec.toInt_eq_toNat_bmod, BitVec.toNat_ofNat]; simp only [Int.bmod]; omega

/-- The search at x is the exponent field B of the binade x lies in (0 below the first normal binade). -/
theorem biased_eq (x : EReal) (B : ℕ) (hB : B ≤ 254) (hlo : 1 ≤ B → (((2 : ℝ) ^ ((B : ℤ) - 127) : ℝ) : EReal) ≤ x)
    (hhi : x < (((2 : ℝ) ^ ((B : ℤ) - 126) : ℝ) : EReal)) : biased x = BitVec.ofNat 32 B := by
  apply BitVec.eq_of_toInt_eq
  rw [biased_fold, toInt_small B (by omega)]
  have eB : ((BitVec.ofNat 32 B).toInt : ℤ) = B := toInt_small B (by omega)
  apply le_antisymm
  · have := (Finset.fold_op_rel_iff_and (op := IntOp.maxsi (w := 32)) (r := fun c y => y.toInt ≤ c.toInt)
      (fun {x y z} => by simp only [IntOp.maxsi, BitVec.slt, decide_eq_true_eq]; split_ifs <;> omega) (c := BitVec.ofNat 32 B)
      (b := 2147483648#32) (f := fun i : S1x8x256.Idx => lane x (i 2).val)
      (s := Finset.univ.filter fun i => reduces_S1x8x256_S1.drop i = ix1 0)).mpr
    rw [← eB]
    refine this ⟨?_, fun i _ => ?_⟩
    · rw [eB]; have : (2147483648#32 : BitVec 32).toInt = -2147483648 := by decide
      rw [this]; omega
    · have hi : (i 2).val < 256 := (i 2).isLt
      show (lane x (i 2).val).toInt ≤ (BitVec.ofNat 32 B).toInt
      rw [eB]
      unfold lane
      split
      · show (0 : ℤ) ≤ B
        omega
      · rename_i hn
        rw [toInt_small _ hi]
        by_contra hc
        apply hn
        rcases Nat.lt_or_ge (i 2).val 255 with h | h
        · rw [ofBits_pow _ (i 2).val (ofNat_shl _ hi) (by omega) (by omega)]
          refine lt_of_lt_of_le hhi (EReal.coe_le_coe_iff.mpr (zpow_le_zpow_right₀ (by norm_num) (by omega)))
        · have : (i 2).val = 255 := by omega
          rw [this]
          have e : Ideal.ofBits .f32 (BitVec.ofNat 32 255 <<< 23) = ⊤ := by simp [Ideal.ofBits, Ideal.ieee]
          rw [e]
          exact lt_of_lt_of_le hhi le_top
  · have := (Finset.fold_op_rel_iff_or (op := IntOp.maxsi (w := 32)) (r := fun c y => c.toInt ≤ y.toInt)
      (fun {x y z} => by simp only [IntOp.maxsi, BitVec.slt, decide_eq_true_eq]; split_ifs <;> omega) (c := BitVec.ofNat 32 B)
      (b := 2147483648#32) (f := fun i : S1x8x256.Idx => lane x (i 2).val)
      (s := Finset.univ.filter fun i => reduces_S1x8x256_S1.drop i = ix1 0)).mpr
    rw [← eB]
    refine this (Or.inr ⟨ix3 (0 : Fin 1) (0 : Fin 8) (⟨B, by omega⟩ : Fin 256), ?_, ?_⟩)
    · rw [Finset.mem_filter]
      refine ⟨Finset.mem_univ _, ?_⟩
      exact (eq_ix1 _).trans (congrArg _ (Subsingleton.elim (α := Fin 1) _ _))
    · show _ ≤ (lane x B).toInt
      rw [eB]
      unfold lane
      split
      · rename_i h
        rcases Nat.eq_zero_or_pos B with h0 | h0
        · rw [h0]; exact le_refl _
        · rw [ofBits_pow _ B (ofNat_shl _ (by omega)) h0 (by omega)] at h
          exact absurd h (not_lt.mpr (hlo h0))
      · rw [eB]

/-! ## The scale and its inverse -/

theorem shl23 (b : BitVec 32) : Scalar.shli b 23#32 = b <<< 23 := rfl

/-- Below the first normal binade the scale and the inverse are one. -/
theorem pay_small (v : Vec Ideal S1x8x16x1280 .bf16) (h : amaxK v * Ideal.ofBits .f32 0x37924925#32 < (((2 : ℝ) ^ (-126 : ℤ) : ℝ) : EReal)) :
    k0_pay5 (F := Ideal) v = 1 ∧ k0_pay6 (F := Ideal) v = 1 := by
  have e := biased_eq _ 0 (by omega) (by omega) (by simpa using h)
  rw [pay5_eq, pay6_eq, e]
  have h1 : Scalar.shli (Scalar.addi (expo (BitVec.ofNat 32 0)) 127#32) 23#32 = 0x3F800000#32 := by decide
  have h2 : Scalar.shli (Scalar.addi (Scalar.subi 0#32 (expo (BitVec.ofNat 32 0))) 127#32) 23#32 = 0x3F800000#32 := by decide
  rw [h1, h2]
  have : Ideal.ofBits .f32 0x3F800000#32 = 1 := by
    rw [ofBits_pow _ 127 (by decide) (by norm_num) (by norm_num)]; norm_num
  exact ⟨this, this⟩

theorem expo_pos (B : ℕ) (h1 : 1 ≤ B) (h2 : B ≤ 252) :
    (Scalar.shli (Scalar.addi (expo (BitVec.ofNat 32 B)) 127#32) 23#32).toNat = (B + 1) * 2 ^ 23
    ∧ (Scalar.shli (Scalar.addi (Scalar.subi 0#32 (expo (BitVec.ofNat 32 B))) 127#32) 23#32).toNat = (253 - B) * 2 ^ 23 := by
  have key : ∀ B : Fin 253, 1 ≤ B.val → (Scalar.shli (Scalar.addi (expo (BitVec.ofNat 32 B.val)) 127#32) 23#32).toNat = (B.val + 1) * 2 ^ 23
    ∧ (Scalar.shli (Scalar.addi (Scalar.subi 0#32 (expo (BitVec.ofNat 32 B.val))) 127#32) 23#32).toNat = (253 - B.val) * 2 ^ 23 := by
    decide +kernel
  exact key ⟨B, by omega⟩ h1

/-- In the binade of exponent f the scale is 2^(f+1) and the inverse 2^(-(f+1)). -/
theorem pay_normal (v : Vec Ideal S1x8x16x1280 .bf16) (f : ℤ) (hf : -126 ≤ f) (hf' : f ≤ 125)
    (hlo : (((2 : ℝ) ^ f : ℝ) : EReal) ≤ amaxK v * Ideal.ofBits .f32 0x37924925#32)
    (hhi : amaxK v * Ideal.ofBits .f32 0x37924925#32 < (((2 : ℝ) ^ (f + 1) : ℝ) : EReal)) :
    k0_pay5 (F := Ideal) v = (((2 : ℝ) ^ (f + 1) : ℝ) : EReal) ∧ k0_pay6 (F := Ideal) v = (((2 : ℝ) ^ (-(f + 1)) : ℝ) : EReal) := by
  obtain ⟨B, hB⟩ : ∃ B : ℕ, (B : ℤ) = f + 127 := ⟨(f + 127).toNat, by omega⟩
  have e := biased_eq (amaxK v * Ideal.ofBits .f32 0x37924925#32) B (by omega)
    (fun _ => by rw [show (B : ℤ) - 127 = f by omega]; exact hlo) (by rw [show (B : ℤ) - 126 = f + 1 by omega]; exact hhi)
  rw [pay5_eq, pay6_eq, e]
  obtain ⟨k1, k2⟩ := expo_pos B (by omega) (by omega)
  constructor
  · refine (ofBits_pow _ (B + 1) k1 (by omega) (by omega)).trans ?_
    rw [show ((B + 1 : ℕ) : ℤ) - 127 = f + 1 by push_cast; omega]
  · refine (ofBits_pow _ (253 - B) k2 (by omega) (by omega)).trans ?_
    rw [show ((253 - B : ℕ) : ℤ) - 127 = -(f + 1) by omega]

end Cert.KernelIdeal.Scale

end
-- ==== Proof.Amax.lean ====
/- Kernel and reference take one largest magnitude per image, and from it one scale and one inverse scale. -/
module

public import proofs.«01_k».proof.Proof.Result
public import proofs.«01_k».proof.Proof.Ref
public import proofs.«01_k».proof.Proof.Scale

@[expose] public section

noncomputable section

namespace Cert.Proof.Equal

open Idealize.ShloMosaic Idealize.ShloMosaic.Pointwise
open Cert.KernelIdeal.Run Cert.KernelIdeal.Scale Cert.ReferenceIdeal.Out

/-- A gradient array. -/
abbrev Grad : Type := Vec Ideal (⟨4, ![24, 8, 16, 1280]⟩ : Shape) .bf16

/-- The magnitude at a pixel. -/
abbrev mag (a : EReal) : EReal := max a (-a)

theorem absf_mag (φ : FTy) (a : Ideal φ) : FloatOps.absf (F := Ideal) (φ := φ) a = mag a := rfl
theorem slab_apply (A : Grad) (n : Fin 24) (a : Fin 1) (o : Fin 8) (x : Fin 16) (k : Fin 1280) : slab A n (ix4 a o x k) = A (ix4 n o x k) := by
  unfold slab; rfl

theorem extractK (v : FVec Ideal Cert.KernelIdeal.S1 .f32) : extractAt ![0, 0, 0, 0] (shapeCast Cert.KernelIdeal.S1x1x1x1 v Cert.KernelIdeal.Gen.shapeCasts_S1_S1x1x1x1) Cert.KernelIdeal.Gen.inpos_S1x1x1x1_p0_0_0_0 = v (ix1 0) := by
  pointwise

/-- The kernel's largest magnitude is at most c exactly when every pixel's is. -/
theorem amaxK_le (A : Grad) (n : Fin 24) (c : EReal) : amaxK (slab A n) ≤ c ↔ ∀ (o : Fin 8) (x : Fin 16) (k : Fin 1280), mag (A (ix4 n o x k)) ≤ c := by
  unfold amaxK
  rw [extractK]
  refine (iff_of_eq (congrArg (fun z : EReal => z ≤ c) (multiReduction_maximumf_eq_fold _ _ _ _ _ _))).trans ?_
  refine (Finset.fold_max_le (c := c)).trans ?_
  constructor
  · rintro ⟨_, h⟩ o x k
    refine le_trans (le_of_eq ?_) (h (ix4 (0 : Fin 1) o x k) ?_)
    · pointwise
      rw [absf_mag, slab_apply]
    · rw [Finset.mem_filter]
      exact ⟨Finset.mem_univ _, (eq_ix1 _).trans (congrArg _ (Subsingleton.elim (α := Fin 1) _ _))⟩
  · intro h
    refine ⟨?_, fun i _ => ?_⟩
    · exact le_trans (le_of_eq bot_val) bot_le
    · obtain ⟨a, o, x, k, rfl⟩ : ∃ (a : Fin 1) (o : Fin 8) (x : Fin 16) (k : Fin 1280), i = ix4 a o x k := ⟨i 0, i 1, i 2, i 3, eq_ix4 i⟩
      refine le_trans (le_of_eq ?_) (h o x k)
      pointwise
      rw [absf_mag, slab_apply]

theorem amaxR_le (A : Grad) (n : Fin 24) (c : EReal) : amaxR A (ix1 n) ≤ c ↔ ∀ (o : Fin 8) (x : Fin 16) (k : Fin 1280), mag (A (ix4 n o x k)) ≤ c := by
  unfold amaxR
  rw [Host.reduce_eq_fold]
  refine (Finset.fold_max_le (c := c)).trans ?_
  have hd : ∀ (a : Fin 24) (o : Fin 8) (x : Fin 16) (k : Fin 1280), (Cert.ReferenceIdeal.Gen.reducesTo_S24x8x16x1280_S24_d1_2_3.drop (ix4 a o x k) 0).val = a.val :=
    fun a o x k => Shape.ReducesTo.drop_apply_val_of_eq _ (ix4 a o x k) 0 0
  constructor
  · rintro ⟨_, h⟩ o x k
    refine h (ix4 n o x k) ?_
    rw [Finset.mem_filter]
    exact ⟨Finset.mem_univ _, (eq_ix1 _).trans (congrArg _ (Fin.ext (hd n o x k)))⟩
  · intro h
    refine ⟨le_trans (le_of_eq bot_val) bot_le, fun i hi => ?_⟩
    obtain ⟨a, o, x, k, rfl⟩ : ∃ (a : Fin 24) (o : Fin 8) (x : Fin 16) (k : Fin 1280), i = ix4 a o x k := ⟨i 0, i 1, i 2, i 3, eq_ix4 i⟩
    rw [Finset.mem_filter] at hi
    have e : a = n := Fin.ext ((hd a o x k).symm.trans (congrArg (fun j : Cert.ReferenceIdeal.S24.Idx => (j 0).val) hi.2))
    rw [e]
    exact h o x k

theorem amax_eq (A : Grad) (n : Fin 24) : amaxK (slab A n) = amaxR A (ix1 n) :=
  eq_of_forall_ge_iff fun c => (amaxK_le A n c).trans (amaxR_le A n c).symm

/-! ## The scale -/

theorem x_gen (y : FVec Ideal Cert.ReferenceIdeal.S24 .f32) (b : BitVec 32) (n : Fin 24) :
    mulf y (broadcastInDim Cert.ReferenceIdeal.S24 ![] Cert.ReferenceIdeal.Gen.bcast_S_S24 (constant Cert.ReferenceIdeal.S_ .f32 b)) (ix1 n) = y (ix1 n) * Ideal.ofBits .f32 b := by
  pointwise

theorem xR_apply (A : Grad) (n : Fin 24) : xR A (ix1 n) = amaxR A (ix1 n) * Ideal.ofBits .f32 0x37924925#32 := by
  unfold xR
  exact x_gen (amaxR A) _ n

theorem e_gen (a x : FVec Ideal Cert.ReferenceIdeal.S24 .f32) (b0 b1 b2 b3 : BitVec 32) (n : Fin 24) :
    select (cmpf .oeq a (broadcastInDim Cert.ReferenceIdeal.S24 ![] Cert.ReferenceIdeal.Gen.bcast_S_S24 (constant Cert.ReferenceIdeal.S_ .f32 b0)))
      (broadcastInDim Cert.ReferenceIdeal.S24 ![] Cert.ReferenceIdeal.Gen.bcast_S_S24 (id (constant Cert.ReferenceIdeal.S_ .f32 b1)))
      (addf (Host.floor (Host.divf (Host.log x) (Host.log (broadcastInDim Cert.ReferenceIdeal.S24 ![] Cert.ReferenceIdeal.Gen.bcast_S_S24 (constant Cert.ReferenceIdeal.S_ .f32 b2)))))
        (broadcastInDim Cert.ReferenceIdeal.S24 ![] Cert.ReferenceIdeal.Gen.bcast_S_S24 (constant Cert.ReferenceIdeal.S_ .f32 b3))) (ix1 n)
    = if (a (ix1 n) : EReal) = Ideal.ofBits .f32 b0 then Ideal.ofBits .f32 b1
      else Ideal.liftRound Int.floor (Ideal.div (Ideal.log (x (ix1 n))) (Ideal.log (Ideal.ofBits .f32 b2))) + Ideal.ofBits .f32 b3 := by
  pointwise
  rfl

theorem eR_apply (A : Grad) (n : Fin 24) : eR A (ix1 n)
    = if (amaxR A (ix1 n) : EReal) = Ideal.ofBits .f32 0x00000000#32 then Ideal.ofBits .f32 0x00000000#32
      else Ideal.liftRound Int.floor (Ideal.div (Ideal.log (xR A (ix1 n))) (Ideal.log (Ideal.ofBits .f32 0x40000000#32))) + Ideal.ofBits .f32 0x3F800000#32 := by
  unfold eR
  exact e_gen (amaxR A) (xR A) _ _ _ _ n

theorem s_gen (e : FVec Ideal Cert.ReferenceIdeal.S24 .f32) (b : BitVec 32) (n : Fin 24) :
    Host.powf (broadcastInDim Cert.ReferenceIdeal.S24 ![] Cert.ReferenceIdeal.Gen.bcast_S_S24 (constant Cert.ReferenceIdeal.S_ .f32 b)) e (ix1 n) = Ideal.pow (Ideal.ofBits .f32 b) (e (ix1 n)) := by
  pointwise

theorem n_gen (e : FVec Ideal Cert.ReferenceIdeal.S24 .f32) (n : Fin 24) : Host.negf e (ix1 n) = -(e (ix1 n)) := by
  pointwise

theorem sR_apply (A : Grad) (n : Fin 24) : sR A (ix1 n) = Ideal.pow (Ideal.ofBits .f32 0x40000000#32) (eR A (ix1 n)) := by
  unfold sR
  exact s_gen (eR A) _ n

theorem iR_apply (A : Grad) (n : Fin 24) : iR A (ix1 n) = Ideal.pow (Ideal.ofBits .f32 0x40000000#32) (-(eR A (ix1 n))) := by
  unfold iR
  rw [s_gen, n_gen]

/-- Images in range: no magnitude above the largest finite bfloat16, and a quotient that is zero or at least the least
    normal number. -/
def Fine (A : Grad) : Prop := ∀ n : Fin 24, amaxR A (ix1 n) ≤ Ideal.ofBits .f32 0x7F7F0000#32
  ∧ (amaxR A (ix1 n) = Ideal.ofBits .f32 0x00000000#32 ∨ Ideal.ofBits .f32 0x00800000#32 ≤ xR A (ix1 n))

theorem mag_nonneg (a : EReal) : 0 ≤ mag a := by
  rcases le_total 0 a with h | h
  · exact le_max_of_le_left h
  · exact le_max_of_le_right (by simpa using h)

/-- The quotient of an image in range is a real number from zero up to 2^113. -/
theorem xR_real (A : Grad) (hA : Fine A) (n : Fin 24) : ∃ X : ℝ, 0 ≤ X ∧ X < 2 ^ (113 : ℤ) ∧ xR A (ix1 n) = (X : EReal) := by
  have h1 : amaxR A (ix1 n) ≤ Ideal.ofBits .f32 0x7F7F0000#32 := (hA n).1
  have h0 : 0 ≤ amaxR A (ix1 n) := le_trans (mag_nonneg _) ((amaxR_le A n _).mp (le_refl _) 0 0 0)
  rw [top_val] at h1
  obtain ⟨r, hr⟩ : ∃ r : ℝ, amaxR A (ix1 n) = (r : EReal) :=
    ⟨(amaxR A (ix1 n)).toReal, (EReal.coe_toReal (fun h => by rw [h] at h1; exact absurd h1 (not_le.mpr (EReal.coe_lt_top _)))
      (fun h => by rw [h] at h0; exact absurd h0 (not_le.mpr (EReal.bot_lt_coe 0)))).symm⟩
  rw [hr] at h0 h1
  have h0' : (0 : ℝ) ≤ r := EReal.coe_le_coe_iff.mp h0
  have h1' := EReal.coe_le_coe_iff.mp h1
  refine ⟨r * (9586981 * 2 ^ (-39 : ℤ)), by positivity, ?_, ?_⟩
  · refine lt_of_le_of_lt (mul_le_mul_of_nonneg_right h1' (by positivity)) ?_
    norm_num
  · rw [xR_apply, hr, c_val, ← EReal.coe_mul]

/-- A base-two logarithm bounds a whole number exactly when its power of two bounds the number. -/
theorem le_log2 (f : ℤ) (X : ℝ) (hX : 0 < X) : (f : ℝ) ≤ Real.log X / Real.log 2 ↔ (2 : ℝ) ^ f ≤ X := by
  rw [le_div_iff₀ (Real.log_pos (by norm_num)), ← Real.log_zpow, Real.log_le_log_iff (by positivity) hX]
theorem log2_lt (f : ℤ) (X : ℝ) (hX : 0 < X) : Real.log X / Real.log 2 < (f : ℝ) ↔ X < (2 : ℝ) ^ f := by
  rw [← not_le, ← not_le, le_log2 f X hX]

/-- Kernel and reference agree on the scale of every image in range and inverse scale. -/
theorem scale_eq (A : Grad) (hA : Fine A) (n : Fin 24) : scaleAt A n = sR A (ix1 n) ∧ invAt A n = iR A (ix1 n) := by
  obtain ⟨X, h0, h1, hX⟩ := xR_real A hA n
  have hk : amaxK (slab A n) * Ideal.ofBits .f32 0x37924925#32 = (X : EReal) := by rw [amax_eq, ← xR_apply, hX]
  unfold scaleAt invAt
  rw [sR_apply, iR_apply, eR_apply, two_val]
  by_cases ha : amaxR A (ix1 n) = Ideal.ofBits .f32 0x00000000#32
  · have hs : amaxK (slab A n) * Ideal.ofBits .f32 0x37924925#32 < (((2 : ℝ) ^ (-126 : ℤ) : ℝ) : EReal) := by
      rw [amax_eq, ha, Ideal.ofBits_zero_f32, zero_mul]
      exact EReal.coe_pos.mpr (by positivity)
    obtain ⟨p5, p6⟩ := pay_small (slab A n) hs
    rw [if_pos ha, p5, p6, Ideal.ofBits_zero_f32]
    have e : Ideal.pow ((2 : ℝ) : EReal) 0 = 1 := by
      show ((Real.rpow 2 0 : ℝ) : EReal) = 1
      rw [show Real.rpow 2 0 = 1 from Real.rpow_zero 2]; rfl
    rw [neg_zero]
    exact ⟨e.symm, e.symm⟩
  · have hs : (2 : ℝ) ^ (-126 : ℤ) ≤ X := by
      have h := (hA n).2.resolve_left ha
      rw [hX, tiny_val] at h
      exact EReal.coe_le_coe_iff.mp h
    have hXp : 0 < X := lt_of_lt_of_le (by positivity) hs
    have hl2 : 0 < Real.log 2 := Real.log_pos (by norm_num)
    have one : Ideal.ofBits .f32 0x3F800000#32 = ((1 : ℝ) : EReal) := by
      rw [ofBits_pow _ 127 (by decide) (by norm_num) (by norm_num)]; norm_num
    have eX : Ideal.log (X : EReal) = (Real.log X : EReal) := if_neg (not_le.mpr hXp)
    have e2 : Ideal.log ((2 : ℝ) : EReal) = (Real.log 2 : EReal) := if_neg (by norm_num)
    have ed : Ideal.div (Real.log X : EReal) (Real.log 2 : EReal) = (((Real.log X / Real.log 2) : ℝ) : EReal) := by
      unfold Ideal.div
      rw [if_neg (by exact_mod_cast hl2.ne'), ← EReal.coe_inv, ← EReal.coe_mul]
      rfl
    rw [if_neg ha, hX, eX, e2, ed, one]
    have ef : Ideal.liftRound Int.floor (((Real.log X / Real.log 2) : ℝ) : EReal) + ((1 : ℝ) : EReal) = (((⌊(Real.log X / Real.log 2)⌋ + 1 : ℤ) : ℝ) : EReal) := by
      show (((⌊(Real.log X / Real.log 2)⌋ : ℤ) : ℝ) : EReal) + ((1 : ℝ) : EReal) = _
      rw [← EReal.coe_add]; push_cast; rfl
    rw [ef, ← EReal.coe_neg]
    set f : ℤ := ⌊(Real.log X / Real.log 2)⌋ with hf
    have f0 : -126 ≤ f := by
      rw [hf, Int.le_floor, le_log2 _ X hXp]
      exact hs
    have f1 : f ≤ 125 := by
      have : f < 113 := by
        rw [hf, Int.floor_lt, log2_lt _ X hXp]
        exact h1
      omega
    have flo : (2 : ℝ) ^ f ≤ X := (le_log2 _ X hXp).mp (Int.floor_le _)
    have fhi : X < (2 : ℝ) ^ (f + 1) := by
      refine (log2_lt _ X hXp).mp ?_
      push_cast
      exact Int.lt_floor_add_one _
    obtain ⟨p5, p6⟩ := pay_normal (slab A n) f f0 f1 (by rw [hk]; exact EReal.coe_le_coe_iff.mpr flo) (by rw [hk]; exact EReal.coe_lt_coe_iff.mpr fhi)
    rw [p5, p6]
    constructor
    · show _ = ((Real.rpow 2 ((f + 1 : ℤ) : ℝ) : ℝ) : EReal)
      rw [show Real.rpow 2 ((f + 1 : ℤ) : ℝ) = (2 : ℝ) ^ (f + 1) from Real.rpow_intCast 2 (f + 1)]
    · show _ = ((Real.rpow 2 (-((f + 1 : ℤ) : ℝ)) : ℝ) : EReal)
      rw [← Int.cast_neg, show Real.rpow 2 ((-(f + 1) : ℤ) : ℝ) = (2 : ℝ) ^ (-(f + 1)) from Real.rpow_intCast 2 (-(f + 1))]

end Cert.Proof.Equal

end
-- ==== Proof.Taps.lean ====
/- The reference's nine taps: each reads the spread-out, padded codes at one offset, and so is one of the kernel's
   products where that offset meets a code, and zero elsewhere. -/
module

public import proofs.«01_k».proof.Proof.Amax
public import Idealize.ShloMosaic.Lib.KernelVsHost

@[expose] public section

noncomputable section

namespace Cert.Proof.Equal

open Idealize.ShloMosaic Idealize.ShloMosaic.Pointwise
open Cert.KernelIdeal.Run Cert.KernelIdeal.Scale Cert.ReferenceIdeal.Out Cert.ReferenceIdeal.Read

/-- A weight array and an array of channel scales. -/
abbrev Wt : Type := Vec Ideal (⟨4, ![3, 3, 2560, 1280]⟩ : Shape) .fp8e4m3
abbrev Sc : Type := Vec Ideal (⟨1, ![1280]⟩ : Shape) .f32
/-- The codes as the reference multiplies them. -/
abbrev Codes : Type := FVec Ideal Cert.ReferenceIdeal.S24x8x16x1280 .bf16
/-- The weight as the reference multiplies it. -/
abbrev Wt16 : Type := FVec Ideal Cert.ReferenceIdeal.S3x3x2560x1280 .bf16

theorem zero_bf16 : Ideal.ofBits .bf16 0x0000#16 = 0 := by simp [Ideal.ofBits, Ideal.ieee]
theorem ofb (φ : FTy) (b : BitVec φ.bits) : FloatOps.ofBits (F := Ideal) φ b = Ideal.ofBits φ b := rfl
theorem mulE (φ : FTy) (a b : Ideal φ) : FloatOps.mulf (F := Ideal) (φ := φ) a b = (a * b : EReal) := rfl
theorem addE (φ : FTy) (a b : Ideal φ) : FloatOps.addf (F := Ideal) (φ := φ) a b = (a + b : EReal) := rfl
theorem truncE (φ ψ : FTy) (h : ψ.bits < φ.bits) (a : Ideal φ) : FloatOps.truncf (F := Ideal) ψ h a = a := rfl

/-- The padded codes: a code where row and column are odd, zero elsewhere. -/
def pz (Y : Codes) (n : Fin 24) (p q : ℕ) (k : Fin 1280) : EReal :=
  if h : (p % 2 = 1 ∧ q % 2 = 1) ∧ p / 2 < 8 ∧ q / 2 < 16 then Y (ix4 n ⟨p / 2, h.2.1⟩ ⟨q / 2, h.2.2⟩ k) else 0

theorem pad_at (Y : Codes) (n : Fin 24) (p : Fin 18) (q : Fin 34) (k : Fin 1280) :
    val_main_v28 (F := Ideal) Y (ix4 n p q k) = pz Y n p.val q.val k := by
  unfold val_main_v28 pz
  have hp := p.isLt
  have hq := q.isLt
  by_cases h : (p.val % 2 = 1 ∧ q.val % 2 = 1) ∧ p.val / 2 < 8 ∧ q.val / 2 < 16
  · rw [dif_pos h]
    refine pad_apply_of_inside _ _ _ _ _ _ _ _ _ fun a => ?_
    match a with
    | ⟨0, _⟩ => show n.val = 0 + n.val * (0 + 1); omega
    | ⟨1, _⟩ => show p.val = 1 + p.val / 2 * (1 + 1); omega
    | ⟨2, _⟩ => show q.val = 1 + q.val / 2 * (1 + 1); omega
    | ⟨3, _⟩ => show k.val = 0 + k.val * (0 + 1); omega
  · rw [dif_neg h]
    have hz : ∀ i, val_main_cst_8 (F := Ideal) i = (0 : EReal) := fun i => by
      rw [val_main_cst_8_apply, ofb, zero_bf16]
    by_cases h1 : p.val % 2 = 1 ∧ p.val / 2 < 8
    · refine (pad_apply_of_not_inside _ _ _ _ _ _ _ _ 2 ?_).trans (hz _)
      show ¬(1 ≤ q.val ∧ (q.val - 1) % (1 + 1) = 0 ∧ (q.val - 1) / (1 + 1) < 16)
      omega
    · refine (pad_apply_of_not_inside _ _ _ _ _ _ _ _ 1 ?_).trans (hz _)
      show ¬(1 ≤ p.val ∧ (p.val - 1) % (1 + 1) = 0 ∧ (p.val - 1) / (1 + 1) < 8)
      omega

/-- The reference's scaled weight. -/
theorem wt_at (W : Sc) (T : Wt16) (a b : Fin 3) (oc : Fin 2560) (k : Fin 1280) :
    val_main_v27 (F := Ideal) W T (ix4 a b oc k) = (T (ix4 a b oc k) * W (ix1 k) : EReal) := by
  rw [val_main_v27_apply, mulE, val_main_v26_apply, val_main_v25_apply, val_main_v24_apply, truncE]
  refine congrArg (fun z : Cert.ReferenceIdeal.S1280.Idx => (T (ix4 a b oc k) * W z : EReal)) ?_
  exact eq_ix1 _

/-- One tap of the reference: the padded codes at one offset against the scaled weight. -/
def rs (Y : Codes) (T : Wt16) (W : Sc) (n : Fin 24) (p q : ℕ) (a b : Fin 3) (oc : Fin 2560) : EReal :=
  ∑ k : Fin 1280, pz Y n p q k * (T (ix4 a b oc k) * W (ix1 k))

/-- One of the reference's products at a pixel. -/
theorem dot_at (y0 : FVec Ideal Cert.ReferenceIdeal.S24x16x32x1280 .bf16) (y1 : FVec Ideal Cert.ReferenceIdeal.S2560x1280 .bf16)
    (n : Fin 24) (y : Fin 16) (x : Fin 32) (oc : Fin 2560) :
    (Host.dotGeneral Cert.ReferenceIdeal.dot_S24x16x32x1280_S2560x1280_S24x16x32x2560_3_1_012_0_n_n none y0 y1 :
      FVec Ideal Cert.ReferenceIdeal.S24x16x32x2560 .f32) (ix4 n y x oc) = (∑ k : Fin 1280, y0 (ix4 n y x k) * y1 (ix2 oc k) : EReal) := by
  pointwise

/-- A tap at any offset: the slice of the padded codes against the slice of the scaled weight. -/
theorem tap (Y : Codes) (T : Wt16) (W : Sc) (n : Fin 24) (y : Fin 16) (x : Fin 32) (oc : Fin 2560) (kh kw a b : Fin 3)
    (hs : Cert.ReferenceIdeal.S24x18x34x1280.Slices ![0, kh.val, kw.val, 0] Cert.ReferenceIdeal.S24x16x32x1280)
    (hw : Cert.ReferenceIdeal.S3x3x2560x1280.Slices ![a.val, b.val, 0, 0] Cert.ReferenceIdeal.S1x1x2560x1280) :
    (Host.dotGeneral (φ₁ := .bf16) (φ₂ := .bf16) Cert.ReferenceIdeal.dot_S24x16x32x1280_S2560x1280_S24x16x32x2560_3_1_012_0_n_n none
      (extractStridedSlice Cert.ReferenceIdeal.S24x16x32x1280 ![0, kh.val, kw.val, 0] (val_main_v28 (F := Ideal) Y) hs)
      (shapeCast Cert.ReferenceIdeal.S2560x1280 (extractStridedSlice Cert.ReferenceIdeal.S1x1x2560x1280 ![a.val, b.val, 0, 0] (val_main_v27 (F := Ideal) W T) hw)
        Cert.ReferenceIdeal.Gen.shapeCasts_S1x1x2560x1280_S2560x1280) :
      FVec Ideal Cert.ReferenceIdeal.S24x16x32x2560 .f32) (ix4 n y x oc) = rs Y T W n (kh.val + y.val) (kw.val + x.val) a b oc := by
  rw [dot_at]
  unfold rs
  refine Finset.sum_congr rfl fun k _ => congrArg₂ (fun u v : EReal => u * v) ?_ ?_
  · refine (extractStridedSlice_apply _ _ hs _ (ix4 n (⟨kh.val + y.val, by omega⟩ : Fin 18) (⟨kw.val + x.val, by omega⟩ : Fin 34) k) fun a => ?_).trans (pad_at Y n _ _ k)
    match a with
    | ⟨0, _⟩ => exact (Nat.zero_add _).symm
    | ⟨1, _⟩ => rfl
    | ⟨2, _⟩ => rfl
    | ⟨3, _⟩ => exact (Nat.zero_add _).symm
  · refine (shapeCast_apply _ _ (ix2 oc k) (ix4 (0 : Fin 1) (0 : Fin 1) oc k) ?_).trans ?_
    · rw [Shape.rowMajor_val_two, Shape.rowMajor_val_four]
      show ((0 * 1 + 0) * 2560 + oc.val) * 1280 + k.val = oc.val * 1280 + k.val
      omega
    refine (extractStridedSlice_apply _ _ hw _ (ix4 a b oc k) fun c => ?_).trans (wt_at W T a b oc k)
    match c with
    | ⟨0, _⟩ => rfl
    | ⟨1, _⟩ => rfl
    | ⟨2, _⟩ => exact (Nat.zero_add _).symm
    | ⟨3, _⟩ => exact (Nat.zero_add _).symm

theorem rs_zero (Y : Codes) (T : Wt16) (W : Sc) (n : Fin 24) (p q : ℕ) (a b : Fin 3) (oc : Fin 2560) (h : ¬(p % 2 = 1 ∧ q % 2 = 1)) :
    rs Y T W n p q a b oc = 0 := by
  unfold rs
  refine Finset.sum_eq_zero fun k _ => ?_
  unfold pz
  rw [dif_neg (fun h' => h h'.1), zero_mul]

theorem rs_odd (A : Grad) (Y : Codes) (T : Wt) (W : Sc) (hY : ∀ n o x k, Y (ix4 n o x k) = clip (A (ix4 n o x k) * invAt A n))
    (n : Fin 24) (p q : ℕ) (a b : Fin 3) (oc : Fin 2560) (hp : p % 2 = 1) (hq : q % 2 = 1) (o z : ℕ) (ho : p / 2 = o) (hz : q / 2 = z) :
    rs Y T W n p q a b oc = Cert.KernelIdeal.Run.tsum A T W n o z a b oc := by
  subst ho hz
  unfold rs Cert.KernelIdeal.Run.tsum
  refine Finset.sum_congr rfl fun k _ => ?_
  unfold pz qd
  by_cases h : p / 2 < 8 ∧ q / 2 < 16
  · rw [dif_pos ⟨⟨hp, hq⟩, h⟩, dif_pos h, hY, mul_comm (T (ix4 a b oc k) : EReal), mul_assoc]
  · rw [dif_neg (fun h' => h h'.2), dif_neg h, zero_mul, zero_mul]

/-- The reference's nine taps added up are the kernel's one, two or four products. -/
theorem acc_eq (A : Grad) (Y : Codes) (T : Wt) (W : Sc) (hY : ∀ n o x k, Y (ix4 n o x k) = clip (A (ix4 n o x k) * invAt A n))
    (n : Fin 24) (y : Fin 16) (x : Fin 32) (oc : Fin 2560) :
    val_main_v74 (F := Ideal) W Y T (ix4 n y x oc) = accAt A T W n y.val x.val oc := by
  rw [val_main_v74_apply, val_main_v69_apply, val_main_v64_apply, val_main_v59_apply, val_main_v54_apply, val_main_v49_apply, val_main_v44_apply,
    val_main_v39_apply, val_main_v34_apply, val_main_v29_apply, val_main_cst_9_apply, ofb, Ideal.ofBits_zero_f32]
  simp only [addE]
  have H := tap Y T W n y x oc
  rw [show val_main_v33 (F := Ideal) W Y T (ix4 n y x oc) = rs Y T W n (0 + y.val) (0 + x.val) 2 2 oc from H 0 0 2 2 _ _,
      show val_main_v38 (F := Ideal) W Y T (ix4 n y x oc) = rs Y T W n (0 + y.val) (1 + x.val) 2 1 oc from H 0 1 2 1 _ _,
      show val_main_v43 (F := Ideal) W Y T (ix4 n y x oc) = rs Y T W n (0 + y.val) (2 + x.val) 2 0 oc from H 0 2 2 0 _ _,
      show val_main_v48 (F := Ideal) W Y T (ix4 n y x oc) = rs Y T W n (1 + y.val) (0 + x.val) 1 2 oc from H 1 0 1 2 _ _,
      show val_main_v53 (F := Ideal) W Y T (ix4 n y x oc) = rs Y T W n (1 + y.val) (1 + x.val) 1 1 oc from H 1 1 1 1 _ _,
      show val_main_v58 (F := Ideal) W Y T (ix4 n y x oc) = rs Y T W n (1 + y.val) (2 + x.val) 1 0 oc from H 1 2 1 0 _ _,
      show val_main_v63 (F := Ideal) W Y T (ix4 n y x oc) = rs Y T W n (2 + y.val) (0 + x.val) 0 2 oc from H 2 0 0 2 _ _,
      show val_main_v68 (F := Ideal) W Y T (ix4 n y x oc) = rs Y T W n (2 + y.val) (1 + x.val) 0 1 oc from H 2 1 0 1 _ _,
      show val_main_v73 (F := Ideal) W Y T (ix4 n y x oc) = rs Y T W n (2 + y.val) (2 + x.val) 0 0 oc from H 2 2 0 0 _ _]
  unfold accAt
  have Z := rs_zero Y T W n
  have O := rs_odd A Y T W hY n
  rcases Nat.mod_two_eq_zero_or_one y.val with hy | hy <;> rcases Nat.mod_two_eq_zero_or_one x.val with hx | hx
  · rw [Z (0 + y.val) (0 + x.val) 2 2 oc (by omega), Z (0 + y.val) (1 + x.val) 2 1 oc (by omega), Z (0 + y.val) (2 + x.val) 2 0 oc (by omega), Z (1 + y.val) (0 + x.val) 1 2 oc (by omega), O (1 + y.val) (1 + x.val) 1 1 oc (by omega) (by omega) (y.val / 2) (x.val / 2) (by omega) (by omega), Z (1 + y.val) (2 + x.val) 1 0 oc (by omega), Z (2 + y.val) (0 + x.val) 0 2 oc (by omega), Z (2 + y.val) (1 + x.val) 0 1 oc (by omega), Z (2 + y.val) (2 + x.val) 0 0 oc (by omega), if_pos hy, if_pos hx]
    simp only [zero_add, add_zero]
  · rw [Z (0 + y.val) (0 + x.val) 2 2 oc (by omega), Z (0 + y.val) (1 + x.val) 2 1 oc (by omega), Z (0 + y.val) (2 + x.val) 2 0 oc (by omega), O (1 + y.val) (0 + x.val) 1 2 oc (by omega) (by omega) (y.val / 2) (x.val / 2) (by omega) (by omega), Z (1 + y.val) (1 + x.val) 1 1 oc (by omega), O (1 + y.val) (2 + x.val) 1 0 oc (by omega) (by omega) (y.val / 2) (x.val / 2 + 1) (by omega) (by omega), Z (2 + y.val) (0 + x.val) 0 2 oc (by omega), Z (2 + y.val) (1 + x.val) 0 1 oc (by omega), Z (2 + y.val) (2 + x.val) 0 0 oc (by omega), if_pos hy, if_neg (by omega)]
    simp only [zero_add, add_zero]
  · rw [Z (0 + y.val) (0 + x.val) 2 2 oc (by omega), O (0 + y.val) (1 + x.val) 2 1 oc (by omega) (by omega) (y.val / 2) (x.val / 2) (by omega) (by omega), Z (0 + y.val) (2 + x.val) 2 0 oc (by omega), Z (1 + y.val) (0 + x.val) 1 2 oc (by omega), Z (1 + y.val) (1 + x.val) 1 1 oc (by omega), Z (1 + y.val) (2 + x.val) 1 0 oc (by omega), Z (2 + y.val) (0 + x.val) 0 2 oc (by omega), O (2 + y.val) (1 + x.val) 0 1 oc (by omega) (by omega) (y.val / 2 + 1) (x.val / 2) (by omega) (by omega), Z (2 + y.val) (2 + x.val) 0 0 oc (by omega), if_neg (by omega), if_pos hx]
    simp only [zero_add, add_zero]
  · rw [O (0 + y.val) (0 + x.val) 2 2 oc (by omega) (by omega) (y.val / 2) (x.val / 2) (by omega) (by omega), Z (0 + y.val) (1 + x.val) 2 1 oc (by omega), O (0 + y.val) (2 + x.val) 2 0 oc (by omega) (by omega) (y.val / 2) (x.val / 2 + 1) (by omega) (by omega), Z (1 + y.val) (0 + x.val) 1 2 oc (by omega), Z (1 + y.val) (1 + x.val) 1 1 oc (by omega), Z (1 + y.val) (2 + x.val) 1 0 oc (by omega), O (2 + y.val) (0 + x.val) 0 2 oc (by omega) (by omega) (y.val / 2 + 1) (x.val / 2) (by omega) (by omega), Z (2 + y.val) (1 + x.val) 0 1 oc (by omega), O (2 + y.val) (2 + x.val) 0 0 oc (by omega) (by omega) (y.val / 2 + 1) (x.val / 2 + 1) (by omega) (by omega), if_neg (by omega), if_neg (by omega)]
    simp only [zero_add, add_zero]
    rw [add_assoc]

end Cert.Proof.Equal

end
-- ==== Proof.Equal.lean ====
/- Kernel and reference leave the same three results on every gradient in range. -/
module

public import proofs.«01_k».proof.Defs
public import proofs.«01_k».proof.Proof.Gen.Pre_in_range
public import proofs.«01_k».proof.Proof.Taps

@[expose] public section

noncomputable section

namespace Cert.Proof.Equal

open Idealize.ShloMosaic Idealize.ShloMosaic.TcCoe Idealize.ShloMosaic.Pointwise Idealize.SL.Sem
open Cert.KernelIdeal.Run Cert.KernelIdeal.Scale Cert.ReferenceIdeal.Out Cert.ReferenceIdeal.Read

theorem y_gen (f : FVec Ideal Cert.ReferenceIdeal.S24 .f32) (A : FVec Ideal Cert.ReferenceIdeal.S24x8x16x1280 .bf16) (b1 b2 : BitVec 32)
    (n : Fin 24) (o : Fin 8) (x : Fin 16) (k : Fin 1280) :
    minimumf (broadcastInDim Cert.ReferenceIdeal.S24x8x16x1280 ![] Cert.ReferenceIdeal.Gen.bcast_S_S24x8x16x1280 (id (constant Cert.ReferenceIdeal.S_ .f32 b1)))
      (maximumf (broadcastInDim Cert.ReferenceIdeal.S24x8x16x1280 ![] Cert.ReferenceIdeal.Gen.bcast_S_S24x8x16x1280 (id (constant Cert.ReferenceIdeal.S_ .f32 b2)))
        (mulf (extf .f32 A Cert.ReferenceIdeal.Gen.bitsLt_bf16_f32)
          (broadcastInDim Cert.ReferenceIdeal.S24x8x16x1280 ![0, 1, 2, 3] Cert.ReferenceIdeal.Gen.bcast_S24x1x1x1_S24x8x16x1280_0_1_2_3
            (broadcastInDim Cert.ReferenceIdeal.S24x1x1x1 ![0] Cert.ReferenceIdeal.Gen.bcast_S24_S24x1x1x1_0 f)))) (ix4 n o x k)
    = min (Ideal.ofBits .f32 b1) (max (Ideal.ofBits .f32 b2) (A (ix4 n o x k) * f (ix1 n))) := by
  pointwise
  rfl

/-- The reference's clipped quotients are the kernel's. -/
theorem code_at (A : Grad) (hA : Fine A) (n : Fin 24) (o : Fin 8) (x : Fin 16) (k : Fin 1280) :
    yR A (ix4 n o x k) = clip (A (ix4 n o x k) * invAt A n) := by
  unfold yR
  rw [y_gen, (scale_eq A hA n).2]
  rfl

theorem codes_eq (A : Grad) (hA : Fine A) : yR A = Gcodes A := by
  funext j
  obtain ⟨n, o, x, k, rfl⟩ : ∃ (n : Fin 24) (o : Fin 8) (x : Fin 16) (k : Fin 1280), j = ix4 n o x k := ⟨j 0, j 1, j 2, j 3, eq_ix4 j⟩
  exact code_at A hA n o x k

theorem scales_eq (A : Grad) (hA : Fine A) : sR A = Gscale A := by
  funext j
  obtain ⟨n, rfl⟩ : ∃ n : Fin 24, j = ix1 n := ⟨j 0, eq_ix1 j⟩
  exact (scale_eq A hA n).1.symm

/-- The two input gradients. -/
theorem grads_eq (A : Grad) (T : Wt) (W : Sc) (hA : Fine A) : val_main_v78 (F := Ideal) W (yR A) T (sR A) = Gdx A T W := by
  funext j
  obtain ⟨n, y, x, oc, rfl⟩ : ∃ (n : Fin 24) (y : Fin 16) (x : Fin 32) (oc : Fin 2560), j = ix4 n y x oc := ⟨j 0, j 1, j 2, j 3, eq_ix4 j⟩
  rw [val_main_v78_apply, truncE, val_main_v77_apply, mulE, acc_eq A (yR A) T W (code_at A hA) n y x oc, val_main_v76_apply, val_main_v75_apply]
  have e : ∀ i : Cert.ReferenceIdeal.S24.Idx, i = ix1 n → sR A i = scaleAt A n := fun i hi => by rw [hi]; exact (scale_eq A hA n).1.symm
  rw [e _ (eq_ix1 _)]
  rfl

theorem pre_gen (a : FVec Ideal Cert.Pre_in_range.S24 .f32) (b0 b1 b2 b3 : BitVec 32) (n : Fin 24) :
    andi (cmpf .ole a (broadcastInDim Cert.Pre_in_range.S24 ![] Cert.Pre_in_range.Gen.bcast_S_S24 (constant Cert.Pre_in_range.S_ .f32 b0)))
      (ori (cmpf .oeq a (broadcastInDim Cert.Pre_in_range.S24 ![] Cert.Pre_in_range.Gen.bcast_S_S24 (constant Cert.Pre_in_range.S_ .f32 b1)))
        (cmpf .oge (mulf a (broadcastInDim Cert.Pre_in_range.S24 ![] Cert.Pre_in_range.Gen.bcast_S_S24 (constant Cert.Pre_in_range.S_ .f32 b2)))
          (broadcastInDim Cert.Pre_in_range.S24 ![] Cert.Pre_in_range.Gen.bcast_S_S24 (constant Cert.Pre_in_range.S_ .f32 b3)))) (ix1 n)
    = BitVec.ofBool (decide ((a (ix1 n) : EReal) ≤ Ideal.ofBits .f32 b0)) &&& (BitVec.ofBool (decide ((a (ix1 n) : EReal) = Ideal.ofBits .f32 b1))
      ||| BitVec.ofBool (decide (Ideal.ofBits .f32 b3 ≤ a (ix1 n) * Ideal.ofBits .f32 b2))) := by
  pointwise
  rfl

/-- The precondition says that every image is in range. -/
theorem fine_of_pre (m : (ℓ : Loc Cert.KernelIdeal.nD Cert.KernelIdeal.τ Cert.KernelIdeal.sig) → Buf (Elt Ideal) ℓ)
    (h : Pre_KernelIdeal_in_range (hPre_in_range := Cert.Pre_in_range.Gen.facts) m) (c : Dev Cert.KernelIdeal.nD) : Fine (A0 m c) := by
  intro n
  have e := (pre_gen (amaxR (A0 m c)) 0x7F7F0000#32 0x00000000#32 0x37924925#32 0x00800000#32 n).symm.trans (congrFun (h c) (ix1 n))
  rw [← xR_apply] at e
  by_cases p : amaxR (A0 m c) (ix1 n) ≤ Ideal.ofBits .f32 0x7F7F0000#32
  · refine ⟨p, ?_⟩
    by_contra q
    rw [not_or] at q
    rw [decide_eq_false q.1, decide_eq_false q.2] at e
    exact absurd e (by rw [decide_eq_true p]; decide)
  · rw [decide_eq_false p] at e
    exact absurd e (by cases decide (amaxR (A0 m c) (ix1 n) = Ideal.ofBits .f32 0x00000000#32) <;> cases decide (Ideal.ofBits .f32 0x00800000#32 ≤ xR (A0 m c) (ix1 n)) <;> decide)

/-- Kernel and reference compute the same gradient, codes and scales. -/
theorem values : algebraic_KernelIdeal_ReferenceIdeal_pre_in_range (hKernelIdeal := Cert.KernelIdeal.Gen.facts)
    (hReferenceIdeal := Cert.ReferenceIdeal.Gen.facts) (hPre_in_range := Cert.Pre_in_range.Gen.facts) := by
  intro m g m' g' hm hargs
  refine ⟨fun c => Gdx (A0 m c) (A1 m c) (A2 m c), fun c => Gcodes (A0 m c), fun c => Gscale (A0 m c), ?_, ?_⟩
  · exact (θ_run _ _ _).mono (fun _ h c => ⟨(h c).1.1, (h c).1.2.1, (h c).1.2.2, (h c).2⟩) (run_values m g)
  · refine (θ_run _ _ _).mono (fun _ h c => ?_) (Cert.ReferenceIdeal.Value.run m' g')
    have hA := fine_of_pre m hm c
    have e0 : B0 m' c = A0 m c := (hargs c).1
    have e1 : B1 m' c = A1 m c := (hargs c).2.1
    have e2 : B2 m' c = A2 m c := (hargs c).2.2
    refine ⟨(h c).1.trans ((dx_eq m' c).trans ?_), (h c).2.1.trans ((reg0 m' c).trans ?_), (h c).2.2.1.trans ?_, (h c).2.2.2⟩
    · rw [e0, e1, e2]; exact grads_eq _ _ _ hA
    · rw [e0]; exact codes_eq _ hA
    · refine Eq.trans (b := sR (B0 m' c)) rfl ?_
      rw [e0]; exact scales_eq _ hA

end Cert.Proof.Equal

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.KernelFrame
public import proofs.«01_k».proof.Proof.Equal
public import proofs.«01_k».proof.Proof.Gen.ReferenceIdeal.Run
public import proofs.«01_k».proof.Proof.Gen.ReferenceIdeal.Read
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_in_range
public import Idealize.ShloMosaic.Adequacy
public import Idealize.ShloMosaic.Init
public import Idealize.ShloMosaic.Lib.Bf16Pair

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_in_range.Gen.facts,
  fun m ρ _ => Cert.Kernel.Run.frame m ρ,
  fun m ρ _ => Cert.KernelIdeal.Run.frame_ideal m ρ, fun m ρ _ => Cert.KernelIdeal.Run.frame_ideal m ρ,
  fun m ρ _ => Cert.ReferenceIdeal.Gen.frame m ρ, fun m ρ _ => Cert.ReferenceIdeal.Gen.frame m ρ,
  ⟨IdealRules.bf16_pair.packStatement _, IdealRules.bf16_pair.statement _ _⟩,
  Cert.Proof.Equal.values⟩

end Cert.Proof

end
